-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S3x256x8192 : Shape := ⟨3, ![3, 256, 8192]⟩
abbrev S16x256x512 : Shape := ⟨3, ![16, 256, 512]⟩
abbrev S16x8x128 : Shape := ⟨3, ![16, 8, 128]⟩
abbrev S3 : Shape := ⟨1, ![3]⟩
abbrev S16 : Shape := ⟨1, ![16]⟩
abbrev S_ : Shape := ⟨0, ![]⟩
abbrev S1 : Shape := ⟨1, ![1]⟩
abbrev S1x256x8192 : Shape := ⟨3, ![1, 256, 8192]⟩
abbrev S256x8192 : Shape := ⟨2, ![256, 8192]⟩
abbrev S256x256 : Shape := ⟨2, ![256, 256]⟩
abbrev S256x2048 : Shape := ⟨2, ![256, 2048]⟩
abbrev S256x512 : Shape := ⟨2, ![256, 512]⟩
abbrev S1x256x512 : Shape := ⟨3, ![1, 256, 512]⟩
abbrev S1x1x1 : Shape := ⟨3, ![1, 1, 1]⟩
abbrev S8x128 : Shape := ⟨2, ![8, 128]⟩
abbrev S1x8x128 : Shape := ⟨3, ![1, 8, 128]⟩
abbrev S16x1x1 : Shape := ⟨3, ![16, 1, 1]⟩
abbrev S1x16 : Shape := ⟨2, ![1, 16]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S3x256x8192, .f32⟩
  | .local _ .vmem, ⟨3, _⟩ => ⟨S16x256x512, .f32⟩
  | .local _ .vmem, ⟨4, _⟩ => ⟨S16x256x512, .i8⟩
  | .local _ .vmem, ⟨5, _⟩ => ⟨S16x256x512, .i8⟩
  | .local _ .vmem, ⟨6, _⟩ => ⟨S16x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_2123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2111 : BitVec 32 := 1#32
  let v2494 : BitVec 32 := Scalar.addi v2 c1_i32_2111
  let c16_i32_2112 : BitVec 32 := 16#32
  let c0_i32_2113 : BitVec 32 := 0#32
  let v2495 : BitVec 1 := Scalar.cmpi .eq c16_i32_2112 c0_i32_2113
  let c1_i32_2114 : BitVec 32 := 1#32
  let v2496 : BitVec 32 := Scalar.select v2495 c1_i32_2114 c16_i32_2112
  let v2497 : BitVec 32 := Scalar.remsi v2494 v2496
  let c0_i32_2116 : BitVec 32 := 0#32
  let v2499 : BitVec 1 := Scalar.cmpi .slt v2497 c0_i32_2116
  let c0_i32_2117 : BitVec 32 := 0#32
  let v2500 : BitVec 1 := Scalar.cmpi .slt v2496 c0_i32_2117
  let v2501 : BitVec 1 := Scalar.xori v2499 v2500
  let c0_i32_2115 : BitVec 32 := 0#32
  let v2498 : BitVec 1 := Scalar.cmpi .ne v2497 c0_i32_2115
  let v2502 : BitVec 1 := Scalar.andi v2501 v2498
  let v2503 : BitVec 32 := Scalar.addi v2497 v2496
  let v2504 : BitVec 32 := Scalar.select v2502 v2503 v2497
  let c1_i32_2122 : BitVec 32 := 1#32
  let v2505 : BitVec 32 := Scalar.muli v2504 c1_i32_2122
  let v2506 : BitVec 32 := Scalar.addi c0_i32_2123 v2505
  v2506.toNat
def k0_dev17 (d0 : Dev nD) : Nat :=
  let c0_i32_2140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2128 : BitVec 32 := 2#32
  let v2515 : BitVec 32 := Scalar.addi v2 c2_i32_2128
  let c16_i32_2129 : BitVec 32 := 16#32
  let c0_i32_2130 : BitVec 32 := 0#32
  let v2516 : BitVec 1 := Scalar.cmpi .eq c16_i32_2129 c0_i32_2130
  let c1_i32_2131 : BitVec 32 := 1#32
  let v2517 : BitVec 32 := Scalar.select v2516 c1_i32_2131 c16_i32_2129
  let v2518 : BitVec 32 := Scalar.remsi v2515 v2517
  let c0_i32_2133 : BitVec 32 := 0#32
  let v2520 : BitVec 1 := Scalar.cmpi .slt v2518 c0_i32_2133
  let c0_i32_2134 : BitVec 32 := 0#32
  let v2521 : BitVec 1 := Scalar.cmpi .slt v2517 c0_i32_2134
  let v2522 : BitVec 1 := Scalar.xori v2520 v2521
  let c0_i32_2132 : BitVec 32 := 0#32
  let v2519 : BitVec 1 := Scalar.cmpi .ne v2518 c0_i32_2132
  let v2523 : BitVec 1 := Scalar.andi v2522 v2519
  let v2524 : BitVec 32 := Scalar.addi v2518 v2517
  let v2525 : BitVec 32 := Scalar.select v2523 v2524 v2518
  let c1_i32_2139 : BitVec 32 := 1#32
  let v2526 : BitVec 32 := Scalar.muli v2525 c1_i32_2139
  let v2527 : BitVec 32 := Scalar.addi c0_i32_2140 v2526
  v2527.toNat
def k0_dev18 (d0 : Dev nD) : Nat :=
  let c0_i32_2157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2145 : BitVec 32 := 3#32
  let v2536 : BitVec 32 := Scalar.addi v2 c3_i32_2145
  let c16_i32_2146 : BitVec 32 := 16#32
  let c0_i32_2147 : BitVec 32 := 0#32
  let v2537 : BitVec 1 := Scalar.cmpi .eq c16_i32_2146 c0_i32_2147
  let c1_i32_2148 : BitVec 32 := 1#32
  let v2538 : BitVec 32 := Scalar.select v2537 c1_i32_2148 c16_i32_2146
  let v2539 : BitVec 32 := Scalar.remsi v2536 v2538
  let c0_i32_2150 : BitVec 32 := 0#32
  let v2541 : BitVec 1 := Scalar.cmpi .slt v2539 c0_i32_2150
  let c0_i32_2151 : BitVec 32 := 0#32
  let v2542 : BitVec 1 := Scalar.cmpi .slt v2538 c0_i32_2151
  let v2543 : BitVec 1 := Scalar.xori v2541 v2542
  let c0_i32_2149 : BitVec 32 := 0#32
  let v2540 : BitVec 1 := Scalar.cmpi .ne v2539 c0_i32_2149
  let v2544 : BitVec 1 := Scalar.andi v2543 v2540
  let v2545 : BitVec 32 := Scalar.addi v2539 v2538
  let v2546 : BitVec 32 := Scalar.select v2544 v2545 v2539
  let c1_i32_2156 : BitVec 32 := 1#32
  let v2547 : BitVec 32 := Scalar.muli v2546 c1_i32_2156
  let v2548 : BitVec 32 := Scalar.addi c0_i32_2157 v2547
  v2548.toNat
def k0_dev19 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2162 : BitVec 32 := 4#32
  let v2557 : BitVec 32 := Scalar.addi v2 c4_i32_2162
  let c16_i32_2163 : BitVec 32 := 16#32
  let c0_i32_2164 : BitVec 32 := 0#32
  let v2558 : BitVec 1 := Scalar.cmpi .eq c16_i32_2163 c0_i32_2164
  let c1_i32_2165 : BitVec 32 := 1#32
  let v2559 : BitVec 32 := Scalar.select v2558 c1_i32_2165 c16_i32_2163
  let v2560 : BitVec 32 := Scalar.remsi v2557 v2559
  let c0_i32_2167 : BitVec 32 := 0#32
  let v2562 : BitVec 1 := Scalar.cmpi .slt v2560 c0_i32_2167
  let c0_i32_2168 : BitVec 32 := 0#32
  let v2563 : BitVec 1 := Scalar.cmpi .slt v2559 c0_i32_2168
  let v2564 : BitVec 1 := Scalar.xori v2562 v2563
  let c0_i32_2166 : BitVec 32 := 0#32
  let v2561 : BitVec 1 := Scalar.cmpi .ne v2560 c0_i32_2166
  let v2565 : BitVec 1 := Scalar.andi v2564 v2561
  let v2566 : BitVec 32 := Scalar.addi v2560 v2559
  let v2567 : BitVec 32 := Scalar.select v2565 v2566 v2560
  let c1_i32_2173 : BitVec 32 := 1#32
  let v2568 : BitVec 32 := Scalar.muli v2567 c1_i32_2173
  let v2569 : BitVec 32 := Scalar.addi c0_i32_2174 v2568
  v2569.toNat
def k0_dev20 (d0 : Dev nD) : Nat :=
  let c0_i32_2191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2179 : BitVec 32 := 5#32
  let v2578 : BitVec 32 := Scalar.addi v2 c5_i32_2179
  let c16_i32_2180 : BitVec 32 := 16#32
  let c0_i32_2181 : BitVec 32 := 0#32
  let v2579 : BitVec 1 := Scalar.cmpi .eq c16_i32_2180 c0_i32_2181
  let c1_i32_2182 : BitVec 32 := 1#32
  let v2580 : BitVec 32 := Scalar.select v2579 c1_i32_2182 c16_i32_2180
  let v2581 : BitVec 32 := Scalar.remsi v2578 v2580
  let c0_i32_2184 : BitVec 32 := 0#32
  let v2583 : BitVec 1 := Scalar.cmpi .slt v2581 c0_i32_2184
  let c0_i32_2185 : BitVec 32 := 0#32
  let v2584 : BitVec 1 := Scalar.cmpi .slt v2580 c0_i32_2185
  let v2585 : BitVec 1 := Scalar.xori v2583 v2584
  let c0_i32_2183 : BitVec 32 := 0#32
  let v2582 : BitVec 1 := Scalar.cmpi .ne v2581 c0_i32_2183
  let v2586 : BitVec 1 := Scalar.andi v2585 v2582
  let v2587 : BitVec 32 := Scalar.addi v2581 v2580
  let v2588 : BitVec 32 := Scalar.select v2586 v2587 v2581
  let c1_i32_2190 : BitVec 32 := 1#32
  let v2589 : BitVec 32 := Scalar.muli v2588 c1_i32_2190
  let v2590 : BitVec 32 := Scalar.addi c0_i32_2191 v2589
  v2590.toNat
def k0_dev21 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2196 : BitVec 32 := 6#32
  let v2599 : BitVec 32 := Scalar.addi v2 c6_i32_2196
  let c16_i32_2197 : BitVec 32 := 16#32
  let c0_i32_2198 : BitVec 32 := 0#32
  let v2600 : BitVec 1 := Scalar.cmpi .eq c16_i32_2197 c0_i32_2198
  let c1_i32_2199 : BitVec 32 := 1#32
  let v2601 : BitVec 32 := Scalar.select v2600 c1_i32_2199 c16_i32_2197
  let v2602 : BitVec 32 := Scalar.remsi v2599 v2601
  let c0_i32_2201 : BitVec 32 := 0#32
  let v2604 : BitVec 1 := Scalar.cmpi .slt v2602 c0_i32_2201
  let c0_i32_2202 : BitVec 32 := 0#32
  let v2605 : BitVec 1 := Scalar.cmpi .slt v2601 c0_i32_2202
  let v2606 : BitVec 1 := Scalar.xori v2604 v2605
  let c0_i32_2200 : BitVec 32 := 0#32
  let v2603 : BitVec 1 := Scalar.cmpi .ne v2602 c0_i32_2200
  let v2607 : BitVec 1 := Scalar.andi v2606 v2603
  let v2608 : BitVec 32 := Scalar.addi v2602 v2601
  let v2609 : BitVec 32 := Scalar.select v2607 v2608 v2602
  let c1_i32_2207 : BitVec 32 := 1#32
  let v2610 : BitVec 32 := Scalar.muli v2609 c1_i32_2207
  let v2611 : BitVec 32 := Scalar.addi c0_i32_2208 v2610
  v2611.toNat
def k0_dev22 (d0 : Dev nD) : Nat :=
  let c0_i32_2225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2213 : BitVec 32 := 7#32
  let v2620 : BitVec 32 := Scalar.addi v2 c7_i32_2213
  let c16_i32_2214 : BitVec 32 := 16#32
  let c0_i32_2215 : BitVec 32 := 0#32
  let v2621 : BitVec 1 := Scalar.cmpi .eq c16_i32_2214 c0_i32_2215
  let c1_i32_2216 : BitVec 32 := 1#32
  let v2622 : BitVec 32 := Scalar.select v2621 c1_i32_2216 c16_i32_2214
  let v2623 : BitVec 32 := Scalar.remsi v2620 v2622
  let c0_i32_2218 : BitVec 32 := 0#32
  let v2625 : BitVec 1 := Scalar.cmpi .slt v2623 c0_i32_2218
  let c0_i32_2219 : BitVec 32 := 0#32
  let v2626 : BitVec 1 := Scalar.cmpi .slt v2622 c0_i32_2219
  let v2627 : BitVec 1 := Scalar.xori v2625 v2626
  let c0_i32_2217 : BitVec 32 := 0#32
  let v2624 : BitVec 1 := Scalar.cmpi .ne v2623 c0_i32_2217
  let v2628 : BitVec 1 := Scalar.andi v2627 v2624
  let v2629 : BitVec 32 := Scalar.addi v2623 v2622
  let v2630 : BitVec 32 := Scalar.select v2628 v2629 v2623
  let c1_i32_2224 : BitVec 32 := 1#32
  let v2631 : BitVec 32 := Scalar.muli v2630 c1_i32_2224
  let v2632 : BitVec 32 := Scalar.addi c0_i32_2225 v2631
  v2632.toNat
def k0_dev23 (d0 : Dev nD) : Nat :=
  let c0_i32_2242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2230 : BitVec 32 := 8#32
  let v2641 : BitVec 32 := Scalar.addi v2 c8_i32_2230
  let c16_i32_2231 : BitVec 32 := 16#32
  let c0_i32_2232 : BitVec 32 := 0#32
  let v2642 : BitVec 1 := Scalar.cmpi .eq c16_i32_2231 c0_i32_2232
  let c1_i32_2233 : BitVec 32 := 1#32
  let v2643 : BitVec 32 := Scalar.select v2642 c1_i32_2233 c16_i32_2231
  let v2644 : BitVec 32 := Scalar.remsi v2641 v2643
  let c0_i32_2235 : BitVec 32 := 0#32
  let v2646 : BitVec 1 := Scalar.cmpi .slt v2644 c0_i32_2235
  let c0_i32_2236 : BitVec 32 := 0#32
  let v2647 : BitVec 1 := Scalar.cmpi .slt v2643 c0_i32_2236
  let v2648 : BitVec 1 := Scalar.xori v2646 v2647
  let c0_i32_2234 : BitVec 32 := 0#32
  let v2645 : BitVec 1 := Scalar.cmpi .ne v2644 c0_i32_2234
  let v2649 : BitVec 1 := Scalar.andi v2648 v2645
  let v2650 : BitVec 32 := Scalar.addi v2644 v2643
  let v2651 : BitVec 32 := Scalar.select v2649 v2650 v2644
  let c1_i32_2241 : BitVec 32 := 1#32
  let v2652 : BitVec 32 := Scalar.muli v2651 c1_i32_2241
  let v2653 : BitVec 32 := Scalar.addi c0_i32_2242 v2652
  v2653.toNat
def k0_dev24 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2247 : BitVec 32 := 9#32
  let v2662 : BitVec 32 := Scalar.addi v2 c9_i32_2247
  let c16_i32_2248 : BitVec 32 := 16#32
  let c0_i32_2249 : BitVec 32 := 0#32
  let v2663 : BitVec 1 := Scalar.cmpi .eq c16_i32_2248 c0_i32_2249
  let c1_i32_2250 : BitVec 32 := 1#32
  let v2664 : BitVec 32 := Scalar.select v2663 c1_i32_2250 c16_i32_2248
  let v2665 : BitVec 32 := Scalar.remsi v2662 v2664
  let c0_i32_2252 : BitVec 32 := 0#32
  let v2667 : BitVec 1 := Scalar.cmpi .slt v2665 c0_i32_2252
  let c0_i32_2253 : BitVec 32 := 0#32
  let v2668 : BitVec 1 := Scalar.cmpi .slt v2664 c0_i32_2253
  let v2669 : BitVec 1 := Scalar.xori v2667 v2668
  let c0_i32_2251 : BitVec 32 := 0#32
  let v2666 : BitVec 1 := Scalar.cmpi .ne v2665 c0_i32_2251
  let v2670 : BitVec 1 := Scalar.andi v2669 v2666
  let v2671 : BitVec 32 := Scalar.addi v2665 v2664
  let v2672 : BitVec 32 := Scalar.select v2670 v2671 v2665
  let c1_i32_2258 : BitVec 32 := 1#32
  let v2673 : BitVec 32 := Scalar.muli v2672 c1_i32_2258
  let v2674 : BitVec 32 := Scalar.addi c0_i32_2259 v2673
  v2674.toNat
def k0_dev25 (d0 : Dev nD) : Nat :=
  let c0_i32_2276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2264 : BitVec 32 := 10#32
  let v2683 : BitVec 32 := Scalar.addi v2 c10_i32_2264
  let c16_i32_2265 : BitVec 32 := 16#32
  let c0_i32_2266 : BitVec 32 := 0#32
  let v2684 : BitVec 1 := Scalar.cmpi .eq c16_i32_2265 c0_i32_2266
  let c1_i32_2267 : BitVec 32 := 1#32
  let v2685 : BitVec 32 := Scalar.select v2684 c1_i32_2267 c16_i32_2265
  let v2686 : BitVec 32 := Scalar.remsi v2683 v2685
  let c0_i32_2269 : BitVec 32 := 0#32
  let v2688 : BitVec 1 := Scalar.cmpi .slt v2686 c0_i32_2269
  let c0_i32_2270 : BitVec 32 := 0#32
  let v2689 : BitVec 1 := Scalar.cmpi .slt v2685 c0_i32_2270
  let v2690 : BitVec 1 := Scalar.xori v2688 v2689
  let c0_i32_2268 : BitVec 32 := 0#32
  let v2687 : BitVec 1 := Scalar.cmpi .ne v2686 c0_i32_2268
  let v2691 : BitVec 1 := Scalar.andi v2690 v2687
  let v2692 : BitVec 32 := Scalar.addi v2686 v2685
  let v2693 : BitVec 32 := Scalar.select v2691 v2692 v2686
  let c1_i32_2275 : BitVec 32 := 1#32
  let v2694 : BitVec 32 := Scalar.muli v2693 c1_i32_2275
  let v2695 : BitVec 32 := Scalar.addi c0_i32_2276 v2694
  v2695.toNat
def k0_dev26 (d0 : Dev nD) : Nat :=
  let c0_i32_2293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2281 : BitVec 32 := 11#32
  let v2704 : BitVec 32 := Scalar.addi v2 c11_i32_2281
  let c16_i32_2282 : BitVec 32 := 16#32
  let c0_i32_2283 : BitVec 32 := 0#32
  let v2705 : BitVec 1 := Scalar.cmpi .eq c16_i32_2282 c0_i32_2283
  let c1_i32_2284 : BitVec 32 := 1#32
  let v2706 : BitVec 32 := Scalar.select v2705 c1_i32_2284 c16_i32_2282
  let v2707 : BitVec 32 := Scalar.remsi v2704 v2706
  let c0_i32_2286 : BitVec 32 := 0#32
  let v2709 : BitVec 1 := Scalar.cmpi .slt v2707 c0_i32_2286
  let c0_i32_2287 : BitVec 32 := 0#32
  let v2710 : BitVec 1 := Scalar.cmpi .slt v2706 c0_i32_2287
  let v2711 : BitVec 1 := Scalar.xori v2709 v2710
  let c0_i32_2285 : BitVec 32 := 0#32
  let v2708 : BitVec 1 := Scalar.cmpi .ne v2707 c0_i32_2285
  let v2712 : BitVec 1 := Scalar.andi v2711 v2708
  let v2713 : BitVec 32 := Scalar.addi v2707 v2706
  let v2714 : BitVec 32 := Scalar.select v2712 v2713 v2707
  let c1_i32_2292 : BitVec 32 := 1#32
  let v2715 : BitVec 32 := Scalar.muli v2714 c1_i32_2292
  let v2716 : BitVec 32 := Scalar.addi c0_i32_2293 v2715
  v2716.toNat
def k0_dev27 (d0 : Dev nD) : Nat :=
  let c0_i32_2310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2298 : BitVec 32 := 12#32
  let v2725 : BitVec 32 := Scalar.addi v2 c12_i32_2298
  let c16_i32_2299 : BitVec 32 := 16#32
  let c0_i32_2300 : BitVec 32 := 0#32
  let v2726 : BitVec 1 := Scalar.cmpi .eq c16_i32_2299 c0_i32_2300
  let c1_i32_2301 : BitVec 32 := 1#32
  let v2727 : BitVec 32 := Scalar.select v2726 c1_i32_2301 c16_i32_2299
  let v2728 : BitVec 32 := Scalar.remsi v2725 v2727
  let c0_i32_2303 : BitVec 32 := 0#32
  let v2730 : BitVec 1 := Scalar.cmpi .slt v2728 c0_i32_2303
  let c0_i32_2304 : BitVec 32 := 0#32
  let v2731 : BitVec 1 := Scalar.cmpi .slt v2727 c0_i32_2304
  let v2732 : BitVec 1 := Scalar.xori v2730 v2731
  let c0_i32_2302 : BitVec 32 := 0#32
  let v2729 : BitVec 1 := Scalar.cmpi .ne v2728 c0_i32_2302
  let v2733 : BitVec 1 := Scalar.andi v2732 v2729
  let v2734 : BitVec 32 := Scalar.addi v2728 v2727
  let v2735 : BitVec 32 := Scalar.select v2733 v2734 v2728
  let c1_i32_2309 : BitVec 32 := 1#32
  let v2736 : BitVec 32 := Scalar.muli v2735 c1_i32_2309
  let v2737 : BitVec 32 := Scalar.addi c0_i32_2310 v2736
  v2737.toNat
def k0_dev28 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2315 : BitVec 32 := 13#32
  let v2746 : BitVec 32 := Scalar.addi v2 c13_i32_2315
  let c16_i32_2316 : BitVec 32 := 16#32
  let c0_i32_2317 : BitVec 32 := 0#32
  let v2747 : BitVec 1 := Scalar.cmpi .eq c16_i32_2316 c0_i32_2317
  let c1_i32_2318 : BitVec 32 := 1#32
  let v2748 : BitVec 32 := Scalar.select v2747 c1_i32_2318 c16_i32_2316
  let v2749 : BitVec 32 := Scalar.remsi v2746 v2748
  let c0_i32_2320 : BitVec 32 := 0#32
  let v2751 : BitVec 1 := Scalar.cmpi .slt v2749 c0_i32_2320
  let c0_i32_2321 : BitVec 32 := 0#32
  let v2752 : BitVec 1 := Scalar.cmpi .slt v2748 c0_i32_2321
  let v2753 : BitVec 1 := Scalar.xori v2751 v2752
  let c0_i32_2319 : BitVec 32 := 0#32
  let v2750 : BitVec 1 := Scalar.cmpi .ne v2749 c0_i32_2319
  let v2754 : BitVec 1 := Scalar.andi v2753 v2750
  let v2755 : BitVec 32 := Scalar.addi v2749 v2748
  let v2756 : BitVec 32 := Scalar.select v2754 v2755 v2749
  let c1_i32_2326 : BitVec 32 := 1#32
  let v2757 : BitVec 32 := Scalar.muli v2756 c1_i32_2326
  let v2758 : BitVec 32 := Scalar.addi c0_i32_2327 v2757
  v2758.toNat
def k0_dev29 (d0 : Dev nD) : Nat :=
  let c0_i32_2344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2332 : BitVec 32 := 14#32
  let v2767 : BitVec 32 := Scalar.addi v2 c14_i32_2332
  let c16_i32_2333 : BitVec 32 := 16#32
  let c0_i32_2334 : BitVec 32 := 0#32
  let v2768 : BitVec 1 := Scalar.cmpi .eq c16_i32_2333 c0_i32_2334
  let c1_i32_2335 : BitVec 32 := 1#32
  let v2769 : BitVec 32 := Scalar.select v2768 c1_i32_2335 c16_i32_2333
  let v2770 : BitVec 32 := Scalar.remsi v2767 v2769
  let c0_i32_2337 : BitVec 32 := 0#32
  let v2772 : BitVec 1 := Scalar.cmpi .slt v2770 c0_i32_2337
  let c0_i32_2338 : BitVec 32 := 0#32
  let v2773 : BitVec 1 := Scalar.cmpi .slt v2769 c0_i32_2338
  let v2774 : BitVec 1 := Scalar.xori v2772 v2773
  let c0_i32_2336 : BitVec 32 := 0#32
  let v2771 : BitVec 1 := Scalar.cmpi .ne v2770 c0_i32_2336
  let v2775 : BitVec 1 := Scalar.andi v2774 v2771
  let v2776 : BitVec 32 := Scalar.addi v2770 v2769
  let v2777 : BitVec 32 := Scalar.select v2775 v2776 v2770
  let c1_i32_2343 : BitVec 32 := 1#32
  let v2778 : BitVec 32 := Scalar.muli v2777 c1_i32_2343
  let v2779 : BitVec 32 := Scalar.addi c0_i32_2344 v2778
  v2779.toNat
def k0_dev30 (d0 : Dev nD) : Nat :=
  let c0_i32_2361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2349 : BitVec 32 := 15#32
  let v2788 : BitVec 32 := Scalar.addi v2 c15_i32_2349
  let c16_i32_2350 : BitVec 32 := 16#32
  let c0_i32_2351 : BitVec 32 := 0#32
  let v2789 : BitVec 1 := Scalar.cmpi .eq c16_i32_2350 c0_i32_2351
  let c1_i32_2352 : BitVec 32 := 1#32
  let v2790 : BitVec 32 := Scalar.select v2789 c1_i32_2352 c16_i32_2350
  let v2791 : BitVec 32 := Scalar.remsi v2788 v2790
  let c0_i32_2354 : BitVec 32 := 0#32
  let v2793 : BitVec 1 := Scalar.cmpi .slt v2791 c0_i32_2354
  let c0_i32_2355 : BitVec 32 := 0#32
  let v2794 : BitVec 1 := Scalar.cmpi .slt v2790 c0_i32_2355
  let v2795 : BitVec 1 := Scalar.xori v2793 v2794
  let c0_i32_2353 : BitVec 32 := 0#32
  let v2792 : BitVec 1 := Scalar.cmpi .ne v2791 c0_i32_2353
  let v2796 : BitVec 1 := Scalar.andi v2795 v2792
  let v2797 : BitVec 32 := Scalar.addi v2791 v2790
  let v2798 : BitVec 32 := Scalar.select v2796 v2797 v2791
  let c1_i32_2360 : BitVec 32 := 1#32
  let v2799 : BitVec 32 := Scalar.muli v2798 c1_i32_2360
  let v2800 : BitVec 32 := Scalar.addi c0_i32_2361 v2799
  v2800.toNat
def k0_off1 (d0 : Dev nD) (c1_i32_2627 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3102 : BitVec 32 := Scalar.addi v2 c1_i32_2627
  let c16_i32_2628 : BitVec 32 := 16#32
  let c0_i32_2629 : BitVec 32 := 0#32
  let v3103 : BitVec 1 := Scalar.cmpi .eq c16_i32_2628 c0_i32_2629
  let c1_i32_2630 : BitVec 32 := 1#32
  let v3104 : BitVec 32 := Scalar.select v3103 c1_i32_2630 c16_i32_2628
  let v3105 : BitVec 32 := Scalar.remsi v3102 v3104
  let c0_i32_2632 : BitVec 32 := 0#32
  let v3107 : BitVec 1 := Scalar.cmpi .slt v3105 c0_i32_2632
  let c0_i32_2633 : BitVec 32 := 0#32
  let v3108 : BitVec 1 := Scalar.cmpi .slt v3104 c0_i32_2633
  let v3109 : BitVec 1 := Scalar.xori v3107 v3108
  let c0_i32_2631 : BitVec 32 := 0#32
  let v3106 : BitVec 1 := Scalar.cmpi .ne v3105 c0_i32_2631
  let v3110 : BitVec 1 := Scalar.andi v3109 v3106
  let v3111 : BitVec 32 := Scalar.addi v3105 v3104
  let v3112 : BitVec 32 := Scalar.select v3110 v3111 v3105
  let v3113 : Index := Scalar.indexCast v3112
  let c0_2634 : Index := 0#32
  let c0_2635 : Index := 0#32
  ![v3113.toNat, 0, 0]
def k0_dev31 (d0 : Dev nD) : Nat :=
  let c0_i32_2653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2641 : BitVec 32 := 1#32
  let v3127 : BitVec 32 := Scalar.addi v2 c1_i32_2641
  let c16_i32_2642 : BitVec 32 := 16#32
  let c0_i32_2643 : BitVec 32 := 0#32
  let v3128 : BitVec 1 := Scalar.cmpi .eq c16_i32_2642 c0_i32_2643
  let c1_i32_2644 : BitVec 32 := 1#32
  let v3129 : BitVec 32 := Scalar.select v3128 c1_i32_2644 c16_i32_2642
  let v3130 : BitVec 32 := Scalar.remsi v3127 v3129
  let c0_i32_2646 : BitVec 32 := 0#32
  let v3132 : BitVec 1 := Scalar.cmpi .slt v3130 c0_i32_2646
  let c0_i32_2647 : BitVec 32 := 0#32
  let v3133 : BitVec 1 := Scalar.cmpi .slt v3129 c0_i32_2647
  let v3134 : BitVec 1 := Scalar.xori v3132 v3133
  let c0_i32_2645 : BitVec 32 := 0#32
  let v3131 : BitVec 1 := Scalar.cmpi .ne v3130 c0_i32_2645
  let v3135 : BitVec 1 := Scalar.andi v3134 v3131
  let v3136 : BitVec 32 := Scalar.addi v3130 v3129
  let v3137 : BitVec 32 := Scalar.select v3135 v3136 v3130
  let c1_i32_2652 : BitVec 32 := 1#32
  let v3138 : BitVec 32 := Scalar.muli v3137 c1_i32_2652
  let v3139 : BitVec 32 := Scalar.addi c0_i32_2653 v3138
  v3139.toNat
def k0_dev32 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2672 : BitVec 32 := 2#32
  let v3173 : BitVec 32 := Scalar.addi v2 c2_i32_2672
  let c16_i32_2673 : BitVec 32 := 16#32
  let c0_i32_2674 : BitVec 32 := 0#32
  let v3174 : BitVec 1 := Scalar.cmpi .eq c16_i32_2673 c0_i32_2674
  let c1_i32_2675 : BitVec 32 := 1#32
  let v3175 : BitVec 32 := Scalar.select v3174 c1_i32_2675 c16_i32_2673
  let v3176 : BitVec 32 := Scalar.remsi v3173 v3175
  let c0_i32_2677 : BitVec 32 := 0#32
  let v3178 : BitVec 1 := Scalar.cmpi .slt v3176 c0_i32_2677
  let c0_i32_2678 : BitVec 32 := 0#32
  let v3179 : BitVec 1 := Scalar.cmpi .slt v3175 c0_i32_2678
  let v3180 : BitVec 1 := Scalar.xori v3178 v3179
  let c0_i32_2676 : BitVec 32 := 0#32
  let v3177 : BitVec 1 := Scalar.cmpi .ne v3176 c0_i32_2676
  let v3181 : BitVec 1 := Scalar.andi v3180 v3177
  let v3182 : BitVec 32 := Scalar.addi v3176 v3175
  let v3183 : BitVec 32 := Scalar.select v3181 v3182 v3176
  let c1_i32_2683 : BitVec 32 := 1#32
  let v3184 : BitVec 32 := Scalar.muli v3183 c1_i32_2683
  let v3185 : BitVec 32 := Scalar.addi c0_i32_2684 v3184
  v3185.toNat
def k0_dev33 (d0 : Dev nD) : Nat :=
  let c0_i32_2715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2703 : BitVec 32 := 3#32
  let v3219 : BitVec 32 := Scalar.addi v2 c3_i32_2703
  let c16_i32_2704 : BitVec 32 := 16#32
  let c0_i32_2705 : BitVec 32 := 0#32
  let v3220 : BitVec 1 := Scalar.cmpi .eq c16_i32_2704 c0_i32_2705
  let c1_i32_2706 : BitVec 32 := 1#32
  let v3221 : BitVec 32 := Scalar.select v3220 c1_i32_2706 c16_i32_2704
  let v3222 : BitVec 32 := Scalar.remsi v3219 v3221
  let c0_i32_2708 : BitVec 32 := 0#32
  let v3224 : BitVec 1 := Scalar.cmpi .slt v3222 c0_i32_2708
  let c0_i32_2709 : BitVec 32 := 0#32
  let v3225 : BitVec 1 := Scalar.cmpi .slt v3221 c0_i32_2709
  let v3226 : BitVec 1 := Scalar.xori v3224 v3225
  let c0_i32_2707 : BitVec 32 := 0#32
  let v3223 : BitVec 1 := Scalar.cmpi .ne v3222 c0_i32_2707
  let v3227 : BitVec 1 := Scalar.andi v3226 v3223
  let v3228 : BitVec 32 := Scalar.addi v3222 v3221
  let v3229 : BitVec 32 := Scalar.select v3227 v3228 v3222
  let c1_i32_2714 : BitVec 32 := 1#32
  let v3230 : BitVec 32 := Scalar.muli v3229 c1_i32_2714
  let v3231 : BitVec 32 := Scalar.addi c0_i32_2715 v3230
  v3231.toNat
def k0_dev34 (d0 : Dev nD) : Nat :=
  let c0_i32_2746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2734 : BitVec 32 := 4#32
  let v3265 : BitVec 32 := Scalar.addi v2 c4_i32_2734
  let c16_i32_2735 : BitVec 32 := 16#32
  let c0_i32_2736 : BitVec 32 := 0#32
  let v3266 : BitVec 1 := Scalar.cmpi .eq c16_i32_2735 c0_i32_2736
  let c1_i32_2737 : BitVec 32 := 1#32
  let v3267 : BitVec 32 := Scalar.select v3266 c1_i32_2737 c16_i32_2735
  let v3268 : BitVec 32 := Scalar.remsi v3265 v3267
  let c0_i32_2739 : BitVec 32 := 0#32
  let v3270 : BitVec 1 := Scalar.cmpi .slt v3268 c0_i32_2739
  let c0_i32_2740 : BitVec 32 := 0#32
  let v3271 : BitVec 1 := Scalar.cmpi .slt v3267 c0_i32_2740
  let v3272 : BitVec 1 := Scalar.xori v3270 v3271
  let c0_i32_2738 : BitVec 32 := 0#32
  let v3269 : BitVec 1 := Scalar.cmpi .ne v3268 c0_i32_2738
  let v3273 : BitVec 1 := Scalar.andi v3272 v3269
  let v3274 : BitVec 32 := Scalar.addi v3268 v3267
  let v3275 : BitVec 32 := Scalar.select v3273 v3274 v3268
  let c1_i32_2745 : BitVec 32 := 1#32
  let v3276 : BitVec 32 := Scalar.muli v3275 c1_i32_2745
  let v3277 : BitVec 32 := Scalar.addi c0_i32_2746 v3276
  v3277.toNat
def k0_dev35 (d0 : Dev nD) : Nat :=
  let c0_i32_2777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2765 : BitVec 32 := 5#32
  let v3311 : BitVec 32 := Scalar.addi v2 c5_i32_2765
  let c16_i32_2766 : BitVec 32 := 16#32
  let c0_i32_2767 : BitVec 32 := 0#32
  let v3312 : BitVec 1 := Scalar.cmpi .eq c16_i32_2766 c0_i32_2767
  let c1_i32_2768 : BitVec 32 := 1#32
  let v3313 : BitVec 32 := Scalar.select v3312 c1_i32_2768 c16_i32_2766
  let v3314 : BitVec 32 := Scalar.remsi v3311 v3313
  let c0_i32_2770 : BitVec 32 := 0#32
  let v3316 : BitVec 1 := Scalar.cmpi .slt v3314 c0_i32_2770
  let c0_i32_2771 : BitVec 32 := 0#32
  let v3317 : BitVec 1 := Scalar.cmpi .slt v3313 c0_i32_2771
  let v3318 : BitVec 1 := Scalar.xori v3316 v3317
  let c0_i32_2769 : BitVec 32 := 0#32
  let v3315 : BitVec 1 := Scalar.cmpi .ne v3314 c0_i32_2769
  let v3319 : BitVec 1 := Scalar.andi v3318 v3315
  let v3320 : BitVec 32 := Scalar.addi v3314 v3313
  let v3321 : BitVec 32 := Scalar.select v3319 v3320 v3314
  let c1_i32_2776 : BitVec 32 := 1#32
  let v3322 : BitVec 32 := Scalar.muli v3321 c1_i32_2776
  let v3323 : BitVec 32 := Scalar.addi c0_i32_2777 v3322
  v3323.toNat
def k0_dev36 (d0 : Dev nD) : Nat :=
  let c0_i32_2808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2796 : BitVec 32 := 6#32
  let v3357 : BitVec 32 := Scalar.addi v2 c6_i32_2796
  let c16_i32_2797 : BitVec 32 := 16#32
  let c0_i32_2798 : BitVec 32 := 0#32
  let v3358 : BitVec 1 := Scalar.cmpi .eq c16_i32_2797 c0_i32_2798
  let c1_i32_2799 : BitVec 32 := 1#32
  let v3359 : BitVec 32 := Scalar.select v3358 c1_i32_2799 c16_i32_2797
  let v3360 : BitVec 32 := Scalar.remsi v3357 v3359
  let c0_i32_2801 : BitVec 32 := 0#32
  let v3362 : BitVec 1 := Scalar.cmpi .slt v3360 c0_i32_2801
  let c0_i32_2802 : BitVec 32 := 0#32
  let v3363 : BitVec 1 := Scalar.cmpi .slt v3359 c0_i32_2802
  let v3364 : BitVec 1 := Scalar.xori v3362 v3363
  let c0_i32_2800 : BitVec 32 := 0#32
  let v3361 : BitVec 1 := Scalar.cmpi .ne v3360 c0_i32_2800
  let v3365 : BitVec 1 := Scalar.andi v3364 v3361
  let v3366 : BitVec 32 := Scalar.addi v3360 v3359
  let v3367 : BitVec 32 := Scalar.select v3365 v3366 v3360
  let c1_i32_2807 : BitVec 32 := 1#32
  let v3368 : BitVec 32 := Scalar.muli v3367 c1_i32_2807
  let v3369 : BitVec 32 := Scalar.addi c0_i32_2808 v3368
  v3369.toNat
def k0_dev37 (d0 : Dev nD) : Nat :=
  let c0_i32_2839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2827 : BitVec 32 := 7#32
  let v3403 : BitVec 32 := Scalar.addi v2 c7_i32_2827
  let c16_i32_2828 : BitVec 32 := 16#32
  let c0_i32_2829 : BitVec 32 := 0#32
  let v3404 : BitVec 1 := Scalar.cmpi .eq c16_i32_2828 c0_i32_2829
  let c1_i32_2830 : BitVec 32 := 1#32
  let v3405 : BitVec 32 := Scalar.select v3404 c1_i32_2830 c16_i32_2828
  let v3406 : BitVec 32 := Scalar.remsi v3403 v3405
  let c0_i32_2832 : BitVec 32 := 0#32
  let v3408 : BitVec 1 := Scalar.cmpi .slt v3406 c0_i32_2832
  let c0_i32_2833 : BitVec 32 := 0#32
  let v3409 : BitVec 1 := Scalar.cmpi .slt v3405 c0_i32_2833
  let v3410 : BitVec 1 := Scalar.xori v3408 v3409
  let c0_i32_2831 : BitVec 32 := 0#32
  let v3407 : BitVec 1 := Scalar.cmpi .ne v3406 c0_i32_2831
  let v3411 : BitVec 1 := Scalar.andi v3410 v3407
  let v3412 : BitVec 32 := Scalar.addi v3406 v3405
  let v3413 : BitVec 32 := Scalar.select v3411 v3412 v3406
  let c1_i32_2838 : BitVec 32 := 1#32
  let v3414 : BitVec 32 := Scalar.muli v3413 c1_i32_2838
  let v3415 : BitVec 32 := Scalar.addi c0_i32_2839 v3414
  v3415.toNat
def k0_dev38 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2858 : BitVec 32 := 8#32
  let v3449 : BitVec 32 := Scalar.addi v2 c8_i32_2858
  let c16_i32_2859 : BitVec 32 := 16#32
  let c0_i32_2860 : BitVec 32 := 0#32
  let v3450 : BitVec 1 := Scalar.cmpi .eq c16_i32_2859 c0_i32_2860
  let c1_i32_2861 : BitVec 32 := 1#32
  let v3451 : BitVec 32 := Scalar.select v3450 c1_i32_2861 c16_i32_2859
  let v3452 : BitVec 32 := Scalar.remsi v3449 v3451
  let c0_i32_2863 : BitVec 32 := 0#32
  let v3454 : BitVec 1 := Scalar.cmpi .slt v3452 c0_i32_2863
  let c0_i32_2864 : BitVec 32 := 0#32
  let v3455 : BitVec 1 := Scalar.cmpi .slt v3451 c0_i32_2864
  let v3456 : BitVec 1 := Scalar.xori v3454 v3455
  let c0_i32_2862 : BitVec 32 := 0#32
  let v3453 : BitVec 1 := Scalar.cmpi .ne v3452 c0_i32_2862
  let v3457 : BitVec 1 := Scalar.andi v3456 v3453
  let v3458 : BitVec 32 := Scalar.addi v3452 v3451
  let v3459 : BitVec 32 := Scalar.select v3457 v3458 v3452
  let c1_i32_2869 : BitVec 32 := 1#32
  let v3460 : BitVec 32 := Scalar.muli v3459 c1_i32_2869
  let v3461 : BitVec 32 := Scalar.addi c0_i32_2870 v3460
  v3461.toNat
def k0_dev39 (d0 : Dev nD) : Nat :=
  let c0_i32_2901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2889 : BitVec 32 := 9#32
  let v3495 : BitVec 32 := Scalar.addi v2 c9_i32_2889
  let c16_i32_2890 : BitVec 32 := 16#32
  let c0_i32_2891 : BitVec 32 := 0#32
  let v3496 : BitVec 1 := Scalar.cmpi .eq c16_i32_2890 c0_i32_2891
  let c1_i32_2892 : BitVec 32 := 1#32
  let v3497 : BitVec 32 := Scalar.select v3496 c1_i32_2892 c16_i32_2890
  let v3498 : BitVec 32 := Scalar.remsi v3495 v3497
  let c0_i32_2894 : BitVec 32 := 0#32
  let v3500 : BitVec 1 := Scalar.cmpi .slt v3498 c0_i32_2894
  let c0_i32_2895 : BitVec 32 := 0#32
  let v3501 : BitVec 1 := Scalar.cmpi .slt v3497 c0_i32_2895
  let v3502 : BitVec 1 := Scalar.xori v3500 v3501
  let c0_i32_2893 : BitVec 32 := 0#32
  let v3499 : BitVec 1 := Scalar.cmpi .ne v3498 c0_i32_2893
  let v3503 : BitVec 1 := Scalar.andi v3502 v3499
  let v3504 : BitVec 32 := Scalar.addi v3498 v3497
  let v3505 : BitVec 32 := Scalar.select v3503 v3504 v3498
  let c1_i32_2900 : BitVec 32 := 1#32
  let v3506 : BitVec 32 := Scalar.muli v3505 c1_i32_2900
  let v3507 : BitVec 32 := Scalar.addi c0_i32_2901 v3506
  v3507.toNat
def k0_dev40 (d0 : Dev nD) : Nat :=
  let c0_i32_2932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2920 : BitVec 32 := 10#32
  let v3541 : BitVec 32 := Scalar.addi v2 c10_i32_2920
  let c16_i32_2921 : BitVec 32 := 16#32
  let c0_i32_2922 : BitVec 32 := 0#32
  let v3542 : BitVec 1 := Scalar.cmpi .eq c16_i32_2921 c0_i32_2922
  let c1_i32_2923 : BitVec 32 := 1#32
  let v3543 : BitVec 32 := Scalar.select v3542 c1_i32_2923 c16_i32_2921
  let v3544 : BitVec 32 := Scalar.remsi v3541 v3543
  let c0_i32_2925 : BitVec 32 := 0#32
  let v3546 : BitVec 1 := Scalar.cmpi .slt v3544 c0_i32_2925
  let c0_i32_2926 : BitVec 32 := 0#32
  let v3547 : BitVec 1 := Scalar.cmpi .slt v3543 c0_i32_2926
  let v3548 : BitVec 1 := Scalar.xori v3546 v3547
  let c0_i32_2924 : BitVec 32 := 0#32
  let v3545 : BitVec 1 := Scalar.cmpi .ne v3544 c0_i32_2924
  let v3549 : BitVec 1 := Scalar.andi v3548 v3545
  let v3550 : BitVec 32 := Scalar.addi v3544 v3543
  let v3551 : BitVec 32 := Scalar.select v3549 v3550 v3544
  let c1_i32_2931 : BitVec 32 := 1#32
  let v3552 : BitVec 32 := Scalar.muli v3551 c1_i32_2931
  let v3553 : BitVec 32 := Scalar.addi c0_i32_2932 v3552
  v3553.toNat
def k0_dev41 (d0 : Dev nD) : Nat :=
  let c0_i32_2963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2951 : BitVec 32 := 11#32
  let v3587 : BitVec 32 := Scalar.addi v2 c11_i32_2951
  let c16_i32_2952 : BitVec 32 := 16#32
  let c0_i32_2953 : BitVec 32 := 0#32
  let v3588 : BitVec 1 := Scalar.cmpi .eq c16_i32_2952 c0_i32_2953
  let c1_i32_2954 : BitVec 32 := 1#32
  let v3589 : BitVec 32 := Scalar.select v3588 c1_i32_2954 c16_i32_2952
  let v3590 : BitVec 32 := Scalar.remsi v3587 v3589
  let c0_i32_2956 : BitVec 32 := 0#32
  let v3592 : BitVec 1 := Scalar.cmpi .slt v3590 c0_i32_2956
  let c0_i32_2957 : BitVec 32 := 0#32
  let v3593 : BitVec 1 := Scalar.cmpi .slt v3589 c0_i32_2957
  let v3594 : BitVec 1 := Scalar.xori v3592 v3593
  let c0_i32_2955 : BitVec 32 := 0#32
  let v3591 : BitVec 1 := Scalar.cmpi .ne v3590 c0_i32_2955
  let v3595 : BitVec 1 := Scalar.andi v3594 v3591
  let v3596 : BitVec 32 := Scalar.addi v3590 v3589
  let v3597 : BitVec 32 := Scalar.select v3595 v3596 v3590
  let c1_i32_2962 : BitVec 32 := 1#32
  let v3598 : BitVec 32 := Scalar.muli v3597 c1_i32_2962
  let v3599 : BitVec 32 := Scalar.addi c0_i32_2963 v3598
  v3599.toNat
def k0_dev42 (d0 : Dev nD) : Nat :=
  let c0_i32_2994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2982 : BitVec 32 := 12#32
  let v3633 : BitVec 32 := Scalar.addi v2 c12_i32_2982
  let c16_i32_2983 : BitVec 32 := 16#32
  let c0_i32_2984 : BitVec 32 := 0#32
  let v3634 : BitVec 1 := Scalar.cmpi .eq c16_i32_2983 c0_i32_2984
  let c1_i32_2985 : BitVec 32 := 1#32
  let v3635 : BitVec 32 := Scalar.select v3634 c1_i32_2985 c16_i32_2983
  let v3636 : BitVec 32 := Scalar.remsi v3633 v3635
  let c0_i32_2987 : BitVec 32 := 0#32
  let v3638 : BitVec 1 := Scalar.cmpi .slt v3636 c0_i32_2987
  let c0_i32_2988 : BitVec 32 := 0#32
  let v3639 : BitVec 1 := Scalar.cmpi .slt v3635 c0_i32_2988
  let v3640 : BitVec 1 := Scalar.xori v3638 v3639
  let c0_i32_2986 : BitVec 32 := 0#32
  let v3637 : BitVec 1 := Scalar.cmpi .ne v3636 c0_i32_2986
  let v3641 : BitVec 1 := Scalar.andi v3640 v3637
  let v3642 : BitVec 32 := Scalar.addi v3636 v3635
  let v3643 : BitVec 32 := Scalar.select v3641 v3642 v3636
  let c1_i32_2993 : BitVec 32 := 1#32
  let v3644 : BitVec 32 := Scalar.muli v3643 c1_i32_2993
  let v3645 : BitVec 32 := Scalar.addi c0_i32_2994 v3644
  v3645.toNat
def k0_dev43 (d0 : Dev nD) : Nat :=
  let c0_i32_3025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3013 : BitVec 32 := 13#32
  let v3679 : BitVec 32 := Scalar.addi v2 c13_i32_3013
  let c16_i32_3014 : BitVec 32 := 16#32
  let c0_i32_3015 : BitVec 32 := 0#32
  let v3680 : BitVec 1 := Scalar.cmpi .eq c16_i32_3014 c0_i32_3015
  let c1_i32_3016 : BitVec 32 := 1#32
  let v3681 : BitVec 32 := Scalar.select v3680 c1_i32_3016 c16_i32_3014
  let v3682 : BitVec 32 := Scalar.remsi v3679 v3681
  let c0_i32_3018 : BitVec 32 := 0#32
  let v3684 : BitVec 1 := Scalar.cmpi .slt v3682 c0_i32_3018
  let c0_i32_3019 : BitVec 32 := 0#32
  let v3685 : BitVec 1 := Scalar.cmpi .slt v3681 c0_i32_3019
  let v3686 : BitVec 1 := Scalar.xori v3684 v3685
  let c0_i32_3017 : BitVec 32 := 0#32
  let v3683 : BitVec 1 := Scalar.cmpi .ne v3682 c0_i32_3017
  let v3687 : BitVec 1 := Scalar.andi v3686 v3683
  let v3688 : BitVec 32 := Scalar.addi v3682 v3681
  let v3689 : BitVec 32 := Scalar.select v3687 v3688 v3682
  let c1_i32_3024 : BitVec 32 := 1#32
  let v3690 : BitVec 32 := Scalar.muli v3689 c1_i32_3024
  let v3691 : BitVec 32 := Scalar.addi c0_i32_3025 v3690
  v3691.toNat
def k0_dev44 (d0 : Dev nD) : Nat :=
  let c0_i32_3056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3044 : BitVec 32 := 14#32
  let v3725 : BitVec 32 := Scalar.addi v2 c14_i32_3044
  let c16_i32_3045 : BitVec 32 := 16#32
  let c0_i32_3046 : BitVec 32 := 0#32
  let v3726 : BitVec 1 := Scalar.cmpi .eq c16_i32_3045 c0_i32_3046
  let c1_i32_3047 : BitVec 32 := 1#32
  let v3727 : BitVec 32 := Scalar.select v3726 c1_i32_3047 c16_i32_3045
  let v3728 : BitVec 32 := Scalar.remsi v3725 v3727
  let c0_i32_3049 : BitVec 32 := 0#32
  let v3730 : BitVec 1 := Scalar.cmpi .slt v3728 c0_i32_3049
  let c0_i32_3050 : BitVec 32 := 0#32
  let v3731 : BitVec 1 := Scalar.cmpi .slt v3727 c0_i32_3050
  let v3732 : BitVec 1 := Scalar.xori v3730 v3731
  let c0_i32_3048 : BitVec 32 := 0#32
  let v3729 : BitVec 1 := Scalar.cmpi .ne v3728 c0_i32_3048
  let v3733 : BitVec 1 := Scalar.andi v3732 v3729
  let v3734 : BitVec 32 := Scalar.addi v3728 v3727
  let v3735 : BitVec 32 := Scalar.select v3733 v3734 v3728
  let c1_i32_3055 : BitVec 32 := 1#32
  let v3736 : BitVec 32 := Scalar.muli v3735 c1_i32_3055
  let v3737 : BitVec 32 := Scalar.addi c0_i32_3056 v3736
  v3737.toNat
def k0_dev45 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3075 : BitVec 32 := 15#32
  let v3771 : BitVec 32 := Scalar.addi v2 c15_i32_3075
  let c16_i32_3076 : BitVec 32 := 16#32
  let c0_i32_3077 : BitVec 32 := 0#32
  let v3772 : BitVec 1 := Scalar.cmpi .eq c16_i32_3076 c0_i32_3077
  let c1_i32_3078 : BitVec 32 := 1#32
  let v3773 : BitVec 32 := Scalar.select v3772 c1_i32_3078 c16_i32_3076
  let v3774 : BitVec 32 := Scalar.remsi v3771 v3773
  let c0_i32_3080 : BitVec 32 := 0#32
  let v3776 : BitVec 1 := Scalar.cmpi .slt v3774 c0_i32_3080
  let c0_i32_3081 : BitVec 32 := 0#32
  let v3777 : BitVec 1 := Scalar.cmpi .slt v3773 c0_i32_3081
  let v3778 : BitVec 1 := Scalar.xori v3776 v3777
  let c0_i32_3079 : BitVec 32 := 0#32
  let v3775 : BitVec 1 := Scalar.cmpi .ne v3774 c0_i32_3079
  let v3779 : BitVec 1 := Scalar.andi v3778 v3775
  let v3780 : BitVec 32 := Scalar.addi v3774 v3773
  let v3781 : BitVec 32 := Scalar.select v3779 v3780 v3774
  let c1_i32_3086 : BitVec 32 := 1#32
  let v3782 : BitVec 32 := Scalar.muli v3781 c1_i32_3086
  let v3783 : BitVec 32 := Scalar.addi c0_i32_3087 v3782
  v3783.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3792 : Index := Scalar.indexCast v2
  let c0_3092 : Index := 0#32
  let c0_3093 : Index := 0#32
  ![v3792.toNat, 0, 0]
def k0_off3 (d0 : Dev nD) (c0_i32_3099 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3806 : BitVec 32 := Scalar.subi v2 c0_i32_3099
  let c16_i32_3100 : BitVec 32 := 16#32
  let c0_i32_3101 : BitVec 32 := 0#32
  let v3807 : BitVec 1 := Scalar.cmpi .eq c16_i32_3100 c0_i32_3101
  let c1_i32_3102 : BitVec 32 := 1#32
  let v3808 : BitVec 32 := Scalar.select v3807 c1_i32_3102 c16_i32_3100
  let v3809 : BitVec 32 := Scalar.remsi v3806 v3808
  let c0_i32_3104 : BitVec 32 := 0#32
  let v3811 : BitVec 1 := Scalar.cmpi .slt v3809 c0_i32_3104
  let c0_i32_3105 : BitVec 32 := 0#32
  let v3812 : BitVec 1 := Scalar.cmpi .slt v3808 c0_i32_3105
  let v3813 : BitVec 1 := Scalar.xori v3811 v3812
  let c0_i32_3103 : BitVec 32 := 0#32
  let v3810 : BitVec 1 := Scalar.cmpi .ne v3809 c0_i32_3103
  let v3814 : BitVec 1 := Scalar.andi v3813 v3810
  let v3815 : BitVec 32 := Scalar.addi v3809 v3808
  let v3816 : BitVec 32 := Scalar.select v3814 v3815 v3809
  let c256_i32_3109 : BitVec 32 := 256#32
  let v3822 : BitVec 32 := Scalar.muli v3816 c256_i32_3109
  let v3823 : Index := Scalar.indexCast v3822
  let c0_3110 : Index := 0#32
  ![v3823.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Kern.Shape.lean ====
/- The kernel's body as a program of loops. The printed body is one long sequence of memory
   operations; here the same sequence is written with its loops, at a symbolic loop index, and the
   two are shown equal. -/
module

public import proofs.«01_k».proof.Proof.Gen.KernelIdeal

@[expose] public section

set_option maxRecDepth 16384

noncomputable section

namespace Cert.KernelIdeal.Kern

open Idealize.ShloMosaic Idealize.SL.Sem Cert.KernelIdeal Cert.KernelIdeal.Gen

variable {F : FTy → Type} [FloatOps F]

/-- The programs of this kernel: those of one core, returning nothing. -/
abbrev P (F : FTy → Type) [FloatOps F] : Type 1 := Prog (TpuEff nD τ sig (Elt F) Λ₀ .tc) PUnit

/-! ## Index facts, at a symbolic loop index -/

theorem inbTile : ∀ k : Fin 16, ∀ a, (![k.val, 0, 0] : Fin 3 → Nat) a + S1x256x512.size a ≤ S16x256x512.size a := by decide
theorem inbAmax : ∀ k : Fin 16, ∀ a, (![k.val, 0, 0] : Fin 3 → Nat) a + S1x8x128.size a ≤ S16x8x128.size a := by decide
theorem inbSem : ∀ k : Fin 16, ∀ a, (![k.val] : Fin 1 → Nat) a + S1.size a ≤ S16.size a := by decide
theorem inbWSem : ∀ p : Fin 16, ∀ a, (![p.val % 3] : Fin 1 → Nat) a + S1.size a ≤ S3.size a := by decide
theorem inbW : ∀ p : Fin 16, ∀ a, (![p.val % 3, 0, 0] : Fin 3 → Nat) a + S1x256x8192.size a ≤ S3x256x8192.size a := by decide
theorem inbHbm : ∀ p : Fin 16, ∀ a, (![p.val * 256, 0] : Fin 2 → Nat) a + S256x8192.size a ≤ S4096x8192.size a := by decide
theorem packedTile : ∀ k : Fin 16, (Rect.unit (s := S16x256x512) ![k.val, 0, 0] S1x256x512.size (inbTile k)).PackedRows (EltTy.packing .i8) := by decide
theorem wordsTile : ∀ k : Fin 16, (Rect.unit (s := S16x256x512) ![k.val, 0, 0] S1x256x512.size (inbTile k)).WholeWords (EltTy.packing .i8) := by decide
theorem slicesX : ∀ p : Fin 16, S256x4096.Slices ![0, p.val * 256] S256x256 := by decide
theorem slicesQ : ∀ q : Fin 4, S256x8192.Slices ![0, q.val * 2048] S256x2048 := by decide
theorem slicesT : ∀ t : Fin 4, S256x2048.Slices ![0, t.val * 512] S256x512 := by decide

/-! ## Devices a copy or a signal addresses, one per loop index -/

/-- The device the `k`-th barrier signal of device `d` goes to. -/
def sigDev (d : Dev nD) : Fin 16 → Nat := fun k => match k.val with
  | 1 => k0_dev1 d | 2 => k0_dev2 d | 3 => k0_dev3 d | 4 => k0_dev4 d | 5 => k0_dev5 d
  | 6 => k0_dev6 d | 7 => k0_dev7 d | 8 => k0_dev8 d | 9 => k0_dev9 d | 10 => k0_dev10 d
  | 11 => k0_dev11 d | 12 => k0_dev12 d | 13 => k0_dev13 d | 14 => k0_dev14 d | 15 => k0_dev15 d | _ => 0

/-- The device the `k`-th copy of the local maximum of device `d` goes to. -/
def maxDev (d : Dev nD) : Fin 16 → Nat := fun k => match k.val with
  | 1 => k0_dev16 d | 2 => k0_dev17 d | 3 => k0_dev18 d | 4 => k0_dev19 d | 5 => k0_dev20 d
  | 6 => k0_dev21 d | 7 => k0_dev22 d | 8 => k0_dev23 d | 9 => k0_dev24 d | 10 => k0_dev25 d
  | 11 => k0_dev26 d | 12 => k0_dev27 d | 13 => k0_dev28 d | 14 => k0_dev29 d | 15 => k0_dev30 d | _ => 0

/-- The device the `k`-th copy of a quantised tile of device `d` goes to. -/
def datDev (d : Dev nD) : Fin 16 → Nat := fun k => match k.val with
  | 1 => k0_dev31 d | 2 => k0_dev32 d | 3 => k0_dev33 d | 4 => k0_dev34 d | 5 => k0_dev35 d
  | 6 => k0_dev36 d | 7 => k0_dev37 d | 8 => k0_dev38 d | 9 => k0_dev39 d | 10 => k0_dev40 d
  | 11 => k0_dev41 d | 12 => k0_dev42 d | 13 => k0_dev43 d | 14 => k0_dev44 d | 15 => k0_dev45 d | _ => 0

theorem sigDev_eq : ∀ (d : Dev nD) (k : Fin 16), 1 ≤ k.val → sigDev d k = (d.val + k.val) % 16 := by decide +kernel
theorem maxDev_eq : ∀ (d : Dev nD) (k : Fin 16), 1 ≤ k.val → maxDev d k = (d.val + k.val) % 16 := by decide +kernel
theorem datDev_eq : ∀ (d : Dev nD) (k : Fin 16), 1 ≤ k.val → datDev d k = (d.val + k.val) % 16 := by decide +kernel
theorem sigDev_lt : ∀ (d : Dev nD) (k : Fin 16), sigDev d k < nD := by decide +kernel
theorem maxDev_lt : ∀ (d : Dev nD) (k : Fin 16), maxDev d k < nD := by decide +kernel
theorem datDev_lt : ∀ (d : Dev nD) (k : Fin 16), datDev d k < nD := by decide +kernel

theorem off1_eq : ∀ (d : Dev nD) (k : Fin 16), k0_off1 d (BitVec.ofNat 32 k.val) = ![(d.val + k.val) % 16, 0, 0] := by decide +kernel
theorem off3_eq : ∀ (d : Dev nD) (k : Fin 16), k0_off3 d (BitVec.ofNat 32 k.val) = ![(d.val + (16 - k.val)) % 16 * 256, 0] := by decide +kernel
theorem off1_inb (d : Dev nD) (k : Fin 16) : ∀ a, (k0_off1 d (BitVec.ofNat 32 k.val)) a + S1x256x512.size a ≤ S16x256x512.size a := by
  rw [off1_eq]; exact inbTile ⟨(d.val + k.val) % 16, Nat.mod_lt _ (by decide)⟩
theorem inbOut : ∀ k : Fin 16, ∀ a, (![k.val * 256, 0] : Fin 2 → Nat) a + S256x512.size a ≤ S4096x512.size a := by decide
theorem off3_inb (d : Dev nD) (k : Fin 16) : ∀ a, (k0_off3 d (BitVec.ofNat 32 k.val)) a + S256x512.size a ≤ S4096x512.size a := by
  rw [off3_eq]; exact inbOut ⟨(d.val + (16 - k.val)) % 16, Nat.mod_lt _ (by decide)⟩

/-! ## The values computed -/

/-- One panel's product at column quarter `q`. -/
def gemm (x : FVec F S256x4096 .f32) (p : Fin 16) (w : Vec F S1x256x8192 .f32) (q : Fin 4) : FVec F S256x2048 .f32 :=
  matmul dot_S256x256_S256x2048_S256x2048_1_0_0_1_n_n none (extractStridedSlice S256x256 ![0, p.val * 256] x (slicesX p))
    (extractStridedSlice S256x2048 ![0, q.val * 2048] (shapeCast S256x8192 w shapeCasts_S1x256x8192_S256x8192) (slicesQ q))
    (constant S256x2048 .f32 0x00000000#32)

/-- Its tile `t`. -/
def gemmTile (x : FVec F S256x4096 .f32) (p : Fin 16) (w : Vec F S1x256x8192 .f32) (q t : Fin 4) : FVec F S256x512 .f32 :=
  extractStridedSlice S256x512 ![0, t.val * 512] (gemm x p w q) (slicesT t)

/-- The tile stored at the first panel. -/
def tileSet (x : FVec F S256x4096 .f32) (p : Fin 16) (w : Vec F S1x256x8192 .f32) (q t : Fin 4) : FVec F S1x256x512 .f32 :=
  shapeCast S1x256x512 (gemmTile x p w q t) shapeCasts_S256x512_S1x256x512

/-- The tile stored at a later panel, over the tile `r` read. -/
def tileAdd (x : FVec F S256x4096 .f32) (p : Fin 16) (w : Vec F S1x256x8192 .f32) (q t : Fin 4) (r : Vec F S1x256x512 .f32) :
    FVec F S1x256x512 .f32 :=
  shapeCast S1x256x512 (addf (shapeCast S256x512 r shapeCasts_S1x256x512_S256x512) (gemmTile x p w q t)) shapeCasts_S256x512_S1x256x512

/-- The maximum over a tile. -/
def tileMax (r : Vec F S1x256x512 .f32) : F .f32 :=
  extractAt ![0, 0, 0] (shapeCast S1x1x1 (multiReduction .maximumf [1, 2] S1
    (shapeCast S1x256x512 (shapeCast S256x512 r shapeCasts_S1x256x512_S256x512) shapeCasts_S256x512_S1x256x512)
    0xFF800000#32 reduces_S1x256x512_S1 (.inl rfl) rfl) shapeCasts_S1_S1x1x1) inpos_S1x1x1_p0_0_0

/-- The local maximum, clipped below at zero and spread over one slot of the staging buffer. -/
def amaxSlot (m : F .f32) : FVec F S1x8x128 .f32 :=
  shapeCast S1x8x128 (broadcast S8x128 (Scalar.maximumf m (Scalar.ofBits .f32 0x00000000#32))) shapeCasts_S8x128_S1x8x128

/-- The maximum over the sixteen gathered values. -/
def gmaxOf (v : Vec F S16x1x1 .f32) : F .f32 :=
  extractAt ![0, 0] (shapeCast S1x1 (multiReduction .maximumf [1] S1
    (shapeCast S1x16 (shapeCast S16 v shapeCasts_S16x1x1_S16) shapeCasts_S16_S1x16)
    0xFF800000#32 reduces_S1x16_S1 (.inl rfl) rfl) shapeCasts_S1_S1x1) inpos_S1x1_p0_0

def scaleOf (g : F .f32) : F .f32 := Scalar.divf g (Scalar.ofBits .f32 0x42FE0000#32)
def invScaleOf (g : F .f32) : F .f32 := Scalar.divf (Scalar.ofBits .f32 0x42FE0000#32) g

/-- A tile quantised by the inverse scale `s`. -/
def quant (s : F .f32) (r : Vec F S1x256x512 .f32) : IVec S1x256x512 8 :=
  shapeCast S1x256x512 (fptosi 8 (minimumf (broadcast S256x512 (Scalar.ofBits .f32 0x42FE0000#32))
    (maximumf (broadcast S256x512 (Scalar.ofBits .f32 0x00000000#32))
      (roundeven (mulf (shapeCast S256x512 r shapeCasts_S1x256x512_S256x512) (broadcast S256x512 s)))))) shapeCasts_S256x512_S1x256x512

/-- A quantised tile back at the scale `s`. -/
def dequant (s : F .f32) (v : Vec F S1x256x512 .i8) : FVec F S256x512 .f32 :=
  mulf (sitofp .f32 (shapeCast S256x512 v shapeCasts_S1x256x512_S256x512)) (broadcast S256x512 s)

/-! ## The loops -/

/-- Run `body` at `lo`, `lo + 1`, … , `n` times, then `K`. -/
def loop (body : Fin 16 → P F → P F) (K : P F) : (n lo : Nat) → lo + n ≤ 16 → P F
  | 0, _, _ => K
  | n + 1, lo, h => body ⟨lo, by omega⟩ (loop body K n (lo + 1) (by omega))

/-- The same, over the four quarters. -/
def loop4 (body : Fin 4 → P F → P F) (K : P F) : (n lo : Nat) → lo + n ≤ 4 → P F
  | 0, _, _ => K
  | n + 1, lo, h => body ⟨lo, by omega⟩ (loop4 body K n (lo + 1) (by omega))

/-- The same, carrying a value. -/
def loopS {σ : Type} (body : Fin 16 → σ → (σ → P F) → P F) (K : σ → P F) : (n lo : Nat) → lo + n ≤ 16 → σ → P F
  | 0, _, _, s => K s
  | n + 1, lo, h, s => body ⟨lo, by omega⟩ s (fun s' => loopS body K n (lo + 1) (by omega) s')

def tileOf (q t : Fin 4) : Fin 16 := ⟨q.val * 4 + t.val, by omega⟩

section

variable (arg0 : Memref sig .tc .vmem S256x4096 .f32) (harg0 : arg0.IsWhole) (arg1 : Memref sig .tc .hbm S4096x8192 .f32) (harg1 : arg1.IsWhole) (arg2 : Memref sig .tc .vmem S4096x512 .f32) (harg2 : arg2.IsWhole) (arg3 : Memref sig .tc .vmem S3x256x8192 .f32) (harg3 : arg3.IsWhole) (arg4 : Memref sig .tc .vmem S16x256x512 .f32) (harg4 : arg4.IsWhole) (arg5 : Memref sig .tc .vmem S16x256x512 .i8) (harg5 : arg5.IsWhole) (arg6 : Memref sig .tc .vmem S16x256x512 .i8) (harg6 : arg6.IsWhole) (arg7 : Memref sig .tc .vmem S16x8x128 .f32) (harg7 : arg7.IsWhole) (arg8 : DmaSems sig S3) (arg9 : DmaSems sig S16) (arg10 : DmaSems sig S16) (arg11 : DmaSems sig S16) (arg12 : DmaSems sig S16)

/-! ### Views -/

abbrev slot (a : DmaSems sig S16) (k : Fin 16) : DmaSems sig S_ :=
  (a.slice (Rect.unit (s := S16) ![k.val] S1.size (inbSem k))).squeeze S_ squeezes_S1_S_
abbrev wslot (p : Fin 16) : DmaSems sig S_ :=
  (arg8.slice (Rect.unit (s := S3) ![p.val % 3] S1.size (inbWSem p))).squeeze S_ squeezes_S1_S_
abbrev wbuf (p : Fin 16) : Memref sig .tc .vmem S256x8192 .f32 :=
  (arg3.slice (Rect.unit (s := S3x256x8192) ![p.val % 3, 0, 0] S1x256x8192.size (inbW p)) (fun _ => rfl)).squeeze S256x8192 squeezes_S1x256x8192_S256x8192
abbrev whbm (p : Fin 16) : Memref sig .tc .hbm S256x8192 .f32 :=
  arg1.slice (Rect.unit (s := S4096x8192) ![p.val * 256, 0] S256x8192.size (inbHbm p)) (fun _ => rfl)
abbrev amx (k : Fin 16) : Memref sig .tc .vmem S8x128 .f32 :=
  (arg7.slice (Rect.unit (s := S16x8x128) ![k.val, 0, 0] S1x8x128.size (inbAmax k)) (fun _ => rfl)).squeeze S8x128 squeezes_S1x8x128_S8x128
abbrev snd (k : Fin 16) : Memref sig .tc .vmem S256x512 .i8 :=
  (arg5.slice (Rect.unit (s := S16x256x512) ![k.val, 0, 0] S1x256x512.size (inbTile k)) (fun _ => rfl)).squeeze S256x512 squeezes_S1x256x512_S256x512
abbrev stg (k : Fin 16) : Memref sig .tc .vmem S256x512 .i8 :=
  (arg6.slice (Rect.unit (s := S16x256x512) ![k.val, 0, 0] S1x256x512.size (inbTile k)) (fun _ => rfl)).squeeze S256x512 squeezes_S1x256x512_S256x512
abbrev barS : Sems sig S_ := SemArray.scalar (sig.barrier 0 rfl)
abbrev rectT (k : Fin 16) : Rect S16x256x512 := Rect.unit (s := S16x256x512) ![k.val, 0, 0] S1x256x512.size (inbTile k)
abbrev rectTo (d : Dev nD) (k : Fin 16) : Rect S16x256x512 := Rect.unit (s := S16x256x512) (k0_off1 d (BitVec.ofNat 32 k.val)) S1x256x512.size (off1_inb d k)

/-! ### The stretches -/

/-- Signal one peer's barrier. -/
def sigK (d : Dev nD) (k : Fin 16) (K : P F) : P F :=
  .op (.semSignal ((⟨sigDev d k, sigDev_lt d k⟩ : Dev nD), .tc) barS.sem (1#32).toInt) fun _ => K

/-- Start the copy of one weight panel. -/
def wstartK (p : Fin 16) (K : P F) : P F :=
  .op (.enqueueDma (whbm arg1 p) (.here (wbuf arg3 p)) (.dma (wslot arg8 p).sem) (View.wordExact_bits rfl) ((View.wordExact_bits rfl).reshape _ _) ⟨Or.inl rfl, trivial⟩) fun _ => K

/-- Await it. -/
def wwaitK (p : Fin 16) (K : P F) : P F :=
  .op (.waitDma2 (wslot arg8 p).sem (whbm arg1 p) (wbuf arg3 p) (View.wordExact_bits rfl) ((View.wordExact_bits rfl).reshape _ _)) fun _ => K

def loadW (p : Fin 16) (K : Vec F S1x256x8192 .f32 → P F) : P F :=
  .op (.load arg3 (Rect.unit (s := S3x256x8192) ![p.val % 3, 0, 0] S1x256x8192.size (inbW p)).toLoadRect (View.loadsAt_vmem h_S1x256x8192)) K
def loadR (t : Fin 16) (K : Vec F S1x256x512 .f32 → P F) : P F :=
  .op (.load arg4 (rectT t).toLoadRect (View.loadsAt_vmem h_S1x256x512)) K
def storeR (t : Fin 16) (v : FVec F S1x256x512 .f32) (K : P F) : P F :=
  .op (.store arg4 (rectT t) v Finset.univ (View.stores_vmem_bits_univ h_S1x256x512 rfl) (.inl rfl)) fun _ => K

/-- The first panel's products, tile by tile. -/
def panel0K (x : FVec F S256x4096 .f32) (p : Fin 16) (K : P F) : P F :=
  loop4 (fun q K => loadW arg3 p fun w =>
    loop4 (fun t K => loadR arg4 (tileOf q t) fun _ => storeR arg4 (tileOf q t) (tileSet x p w q t) K) K 4 0 (by decide)) K 4 0 (by decide)

/-- A later panel's products, added tile by tile. -/
def panelK (x : FVec F S256x4096 .f32) (p : Fin 16) (K : P F) : P F :=
  loop4 (fun q K => loadW arg3 p fun w =>
    loop4 (fun t K => loadR arg4 (tileOf q t) fun r => loadR arg4 (tileOf q t) fun _ => storeR arg4 (tileOf q t) (tileAdd x p w q t r) K) K 4 0 (by decide)) K 4 0 (by decide)

/-- The panels, each awaited, multiplied, and the panel three ahead started while there is one. -/
def panelsK (x : FVec F S256x4096 .f32) (K : P F) : P F :=
  wwaitK arg1 arg3 arg8 0 <| panel0K arg3 arg4 x 0 <| wstartK arg1 arg3 arg8 3 <|
  loop (fun p K => wwaitK arg1 arg3 arg8 p <| panelK arg3 arg4 x p <| wstartK arg1 arg3 arg8 ⟨(p.val + 3) % 16, Nat.mod_lt _ (by decide)⟩ K)
    (loop (fun p K => wwaitK arg1 arg3 arg8 p <| panelK arg3 arg4 x p K) K 3 13 (by decide)) 12 1 (by decide)

/-- The local maximum, over the tiles. -/
def maxK (K : F .f32 → P F) : P F :=
  loopS (fun t m K => loadR arg4 t fun r => K (Scalar.maximumf m (tileMax r))) K 16 0 (by decide) (Scalar.ofBits .f32 0x00000000#32)

/-- The local maximum into slot 0. -/
def putMax (m : F .f32) (K : P F) : P F :=
  .op (.load arg7 (Rect.unit (s := S16x8x128) ![0, 0, 0] S1x8x128.size inb_S16x8x128_S1x8x128_0_0_0).toLoadRect (View.loadsAt_vmem h_S1x8x128)) fun _ =>
  .op (.store arg7 (Rect.unit (s := S16x8x128) ![0, 0, 0] S1x8x128.size inb_S16x8x128_S1x8x128_0_0_0) (amaxSlot m) Finset.univ (View.stores_vmem_bits_univ h_S1x8x128 rfl) (.inl rfl)) fun _ => K

def maxSendK (d : Dev nD) (k : Fin 16) (K : P F) : P F :=
  .op (.enqueueDma (amx arg7 0) (.remote (Dev.tc (⟨maxDev d k, maxDev_lt d k⟩ : Dev nD)) (amx arg7 k) (.dma (slot arg11 k).sem)) (.dma (slot arg12 k).sem) ((View.wordExact_bits rfl).reshape _ _) ((View.wordExact_bits rfl).reshape _ _) ⟨⟨rfl, Or.inl rfl⟩, trivial⟩) fun _ => K

def maxRecvK (k : Fin 16) (K : P F) : P F :=
  .op (.waitDma2 (slot arg12 k).sem (amx arg7 0) (amx arg7 k) ((View.wordExact_bits rfl).reshape _ _) ((View.wordExact_bits rfl).reshape _ _)) fun _ => K

def maxDoneK (k : Fin 16) (K : P F) : P F :=
  .op (.waitDma2 (slot arg11 k).sem (amx arg7 k) (amx arg7 0) ((View.wordExact_bits rfl).reshape _ _) ((View.wordExact_bits rfl).reshape _ _)) fun _ => K

def gatherMax (K : Vec F S16x1x1 .f32 → P F) : P F :=
  .op (.load arg7 (Rect.unit (s := S16x8x128) ![0, 0, 0] S16x1x1.size inb_S16x8x128_S16x1x1_0_0_0).toLoadRect (View.loadsAt_vmem h_S16x1x1)) K

/-- Quantise the tile for the peer `k` ahead and send it. -/
def datSendK (d : Dev nD) (s : F .f32) (k : Fin 16) (K : P F) : P F :=
  .op (.load arg4 (rectTo d k).toLoadRect (View.loadsAt_vmem h_S1x256x512)) fun r =>
  .op (.load arg5 (rectT k).toLoadRect (View.loadsAt_vmem h_S1x256x512)) fun _ =>
  .op (.store arg5 (rectT k) (quant s r) Finset.univ (View.stores_vmem h_S1x256x512 (harg5.storeExact_slice rfl _ (packedTile k)) (fun _ => rfl)) (.inl rfl)) fun _ =>
  .op (.enqueueDma (snd arg5 k) (.remote (Dev.tc (⟨datDev d k, datDev_lt d k⟩ : Dev nD)) (stg arg6 k) (.dma (slot arg9 k).sem)) (.dma (slot arg10 k).sem) ((harg5.wordExact_slice rfl _ (wordsTile k)).reshape _ _) ((harg6.wordExact_slice rfl _ (wordsTile k)).reshape _ _) ⟨⟨rfl, Or.inl rfl⟩, trivial⟩) fun _ => K

/-- Quantise the tile kept. -/
def ownK (d : Dev nD) (s : F .f32) (K : P F) : P F :=
  .op (.load arg4 (Rect.unit (s := S16x256x512) (k0_off2 d) S1x256x512.size (k0_off2_inb d)).toLoadRect (View.loadsAt_vmem h_S1x256x512)) fun r =>
  .op (.load arg6 (rectT 0).toLoadRect (View.loadsAt_vmem h_S1x256x512)) fun _ =>
  .op (.store arg6 (rectT 0) (quant s r) Finset.univ (View.stores_vmem h_S1x256x512 (harg6.storeExact_slice rfl _ (packedTile 0)) (fun _ => rfl)) (.inl rfl)) fun _ => K

/-- The tile in slot `k` to its rows of the result. -/
def outK (d : Dev nD) (s : F .f32) (k : Fin 16) (K : P F) : P F :=
  .op (.load arg6 (rectT k).toLoadRect (View.loadsAt_vmem h_S1x256x512)) fun v =>
  .op (.load arg2 (Rect.unit (s := S4096x512) (k0_off3 d (BitVec.ofNat 32 k.val)) S256x512.size (off3_inb d k)).toLoadRect (View.loadsAt_vmem h_S256x512)) fun _ =>
  .op (.store arg2 (Rect.unit (s := S4096x512) (k0_off3 d (BitVec.ofNat 32 k.val)) S256x512.size (off3_inb d k)) (dequant s v) Finset.univ (View.stores_vmem_bits_univ h_S256x512 rfl) (.inl rfl)) fun _ => K

def datRecvK (k : Fin 16) (K : P F) : P F :=
  .op (.waitDma2 (slot arg10 k).sem (snd arg5 k) (stg arg6 k) ((harg5.wordExact_slice rfl _ (wordsTile k)).reshape _ _) ((harg6.wordExact_slice rfl _ (wordsTile k)).reshape _ _)) fun _ => K

def datDoneK (k : Fin 16) (K : P F) : P F :=
  .op (.waitDma2 (slot arg9 k).sem (stg arg6 k) (snd arg5 k) ((harg6.wordExact_slice rfl _ (wordsTile k)).reshape _ _) ((harg5.wordExact_slice rfl _ (wordsTile k)).reshape _ _)) fun _ => K

/-- From the quantisation on, the scale and its inverse known. -/
def tailK (d : Dev nD) (g : F .f32) : P F :=
  loop (datSendK arg4 arg5 harg5 arg6 harg6 arg9 arg10 d (invScaleOf g))
    (ownK arg4 arg6 harg6 d (invScaleOf g) <|
      outK arg2 arg6 d (scaleOf g) 0 <|
      loop (fun k K => datRecvK arg5 harg5 arg6 harg6 arg10 k <| outK arg2 arg6 d (scaleOf g) k K)
        (loop (fun k K => datDoneK arg5 harg5 arg6 harg6 arg9 k <| maxDoneK arg7 arg11 k K) (.ret ⟨⟩) 15 1 (by decide))
        15 1 (by decide))
    15 1 (by decide)

/-- The exchange of the maxima. -/
def exchangeK (d : Dev nD) (K : F .f32 → P F) : P F :=
  maxK arg4 fun m => putMax arg7 m <|
    loop (maxSendK arg7 arg11 arg12 d)
      (loop (maxRecvK arg7 arg12) (gatherMax arg7 fun v => K (gmaxOf v)) 15 1 (by decide)) 15 1 (by decide)

/-- The body. -/
def bodyK : P F :=
  .op .deviceId fun d =>
  loop (sigK d)
    (.op (.semWait barS.sem (15#32).toInt) fun _ =>
      wstartK arg1 arg3 arg8 0 <| wstartK arg1 arg3 arg8 1 <| wstartK arg1 arg3 arg8 2 <|
      .op (.load arg0 (Rect.unit (s := S256x4096) ![0, 0] S256x4096.size inb_S256x4096_S256x4096_0_0).toLoadRect (View.loadsAt_vmem h_S256x4096)) fun x =>
      panelsK arg1 arg3 arg4 arg8 (shapeCast S256x4096 x shapeCasts_S256x4096_S256x4096) <|
      exchangeK arg4 arg7 arg11 arg12 d fun g =>
      tailK arg2 arg4 arg5 harg5 arg6 harg6 arg7 arg9 arg10 arg11 d g)
    15 1 (by decide)

end

end Cert.KernelIdeal.Kern

end
-- ==== Proof.Kern.Loops.lean ====
/- The buffers, the semaphores and the loop rules: a loop is proved one iteration at a time, at a
   symbolic index, an iteration consuming its own resource and leaving another. -/
module

public import proofs.«01_k».proof.Proof.Kern.Shape
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's part: rounds whose duties are named by an index below sixteen. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The obligation of a stretch of the body at device `c`. -/
abbrev W (c : Dev nD) (p : P F) (Q : PUnit → sProp 𝕄) : sProp 𝕄 :=
  wp frame (wpE (defs₀ (F := F)) 𝒱₀ (c : Thread nD τ) none) Set.univ p Q

/-! ## Resources listed along a loop -/

/-- `Φ lo ∗ Φ (lo + 1) ∗ …`, `n` of them. -/
def along (Φ : Fin 16 → sProp 𝕄) : (n lo : Nat) → lo + n ≤ 16 → sProp 𝕄
  | 0, _, _ => iprop(emp)
  | n + 1, lo, h => iprop(Φ ⟨lo, by omega⟩ ∗ along Φ n (lo + 1) (by omega))

omit [FloatOps F] in
theorem along_succ (Φ : Fin 16 → sProp 𝕄) (n lo : Nat) (h : lo + (n + 1) ≤ 16) :
    along Φ (n + 1) lo h = iprop(Φ ⟨lo, by omega⟩ ∗ along Φ n (lo + 1) (by omega)) := rfl

omit [FloatOps F] in
theorem bigSep_16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem along_16 (Φ : Fin 16 → sProp 𝕄) : along Φ 16 0 (by decide)
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ emp) := rfl

omit [FloatOps F] in
theorem along_full (Φ : Fin 16 → sProp 𝕄) : bigSep Finset.univ Φ ⊢ along Φ 16 0 (by decide) := by
  rw [bigSep_16, along_16]
  iintro ⟨H0, H1, H2, H3, H4, H5, H6, H7, H8, H9, H10, H11, H12, H13, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iempintro

omit [FloatOps F] in
theorem full_along (Φ : Fin 16 → sProp 𝕄) : along Φ 16 0 (by decide) ⊢ bigSep Finset.univ Φ := by
  rw [bigSep_16, along_16]
  iintro ⟨H0, H1, H2, H3, H4, H5, H6, H7, H8, H9, H10, H11, H12, H13, H14, H15, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem along_mono {Φ Ψ : Fin 16 → sProp 𝕄} (h : ∀ k, Φ k ⊢ Ψ k) : ∀ (n lo : Nat) (hl : lo + n ≤ 16),
    along Φ n lo hl ⊢ along Ψ n lo hl
  | 0, _, _ => Entails.refl _
  | n + 1, lo, hl => by
    rw [along_succ, along_succ]
    exact BI.sep_mono (h _) (along_mono h n (lo + 1) _)

omit [FloatOps F] in
/-- Two lists read together are the list of the pairs. -/
theorem along_sep (Φ Ψ : Fin 16 → sProp 𝕄) : ∀ (n lo : Nat) (hl : lo + n ≤ 16),
    iprop(along Φ n lo hl ∗ along Ψ n lo hl) ⊢ along (fun k => iprop(Φ k ∗ Ψ k)) n lo hl
  | 0, _, _ => by unfold along; iintro -; iempintro
  | n + 1, lo, hl => by
    simp only [along_succ]
    iintro ⟨⟨H1, H2⟩, H3, H4⟩
    isplitl [H1 H3]
    · isplitl [H1] <;> iassumption
    iapply (along_sep Φ Ψ n (lo + 1) _)
    isplitl [H2] <;> iassumption

omit [FloatOps F] in
theorem along_unsep (Φ Ψ : Fin 16 → sProp 𝕄) : ∀ (n lo : Nat) (hl : lo + n ≤ 16),
    along (fun k => iprop(Φ k ∗ Ψ k)) n lo hl ⊢ iprop(along Φ n lo hl ∗ along Ψ n lo hl)
  | 0, _, _ => by unfold along; iintro -; isplitl <;> iempintro
  | n + 1, lo, hl => by
    simp only [along_succ]
    iintro ⟨⟨H1, H2⟩, H⟩
    ihave H' := (along_unsep Φ Ψ n (lo + 1) _) $$ H
    icases H' with ⟨H3, H4⟩
    isplitl [H1 H3]
    · isplitl [H1] <;> iassumption
    isplitl [H2] <;> iassumption

/-- The sum of what the remaining iterations of a loop still owe. -/
def oweSum (f : Fin 16 → CellTallies nD τ sig Unit) : (n lo : Nat) → lo + n ≤ 16 → CellTallies nD τ sig Unit
  | 0, _, _ => 0
  | n + 1, lo, h => oweSum f n (lo + 1) (by omega) + f ⟨lo, by omega⟩

theorem oweSum_pos (f : Fin 16 → CellTallies nD τ sig Unit) (g : GSem nD τ sig) (u : Unit) : ∀ (n lo : Nat) (h : lo + n ≤ 16),
    0 < oweSum f n lo h g u → ∃ k : Fin 16, lo ≤ k.val ∧ 0 < f k g u
  | 0, _, _, hp => absurd hp (Nat.lt_irrefl 0)
  | n + 1, lo, h, hp => by
    unfold oweSum at hp
    rw [Pi.add_apply, Finsupp.add_apply] at hp
    rcases Nat.eq_zero_or_pos (f ⟨lo, by omega⟩ g u) with h0 | h0
    · rw [h0, Nat.add_zero] at hp
      obtain ⟨k, hk, hk'⟩ := oweSum_pos f g u n (lo + 1) _ hp
      exact ⟨k, by omega, hk'⟩
    · exact ⟨_, le_refl _, h0⟩

theorem oweSum_apply (f : Fin 16 → CellTallies nD τ sig Unit) (g : GSem nD τ sig) (u : Unit) : ∀ (n lo : Nat) (h : lo + n ≤ 16),
    oweSum f n lo h g u = ∑ k ∈ Finset.univ.filter (fun k : Fin 16 => lo ≤ k.val ∧ k.val < lo + n), f k g u
  | 0, lo, _ => by
    rw [Finset.filter_false_of_mem (by intro k _; omega), Finset.sum_empty]; rfl
  | n + 1, lo, h => by
    unfold oweSum
    rw [Pi.add_apply, Finsupp.add_apply, oweSum_apply f g u n (lo + 1)]
    have hs : (Finset.univ.filter (fun k : Fin 16 => lo ≤ k.val ∧ k.val < lo + (n + 1)))
        = insert ⟨lo, by omega⟩ (Finset.univ.filter (fun k : Fin 16 => lo + 1 ≤ k.val ∧ k.val < lo + 1 + n)) := by
      ext k
      simp only [Finset.mem_filter, Finset.mem_univ, true_and, Finset.mem_insert, Fin.ext_iff]
      omega
    rw [hs, Finset.sum_insert (by simp), Nat.add_comm]

/-! ## The loop rules -/

/-- A loop whose iteration `k` turns `Φ k` into `Ψ k`, moving the state from `S k` to `S (k + 1)`, in the
    presence of what may be used again and again (`R`). -/
theorem wp_loop (c : Dev nD) {R : sProp 𝕄} [BI.Persistent R] (a b : Nat) (S : Nat → sProp 𝕄) (Φ Ψ : Fin 16 → sProp 𝕄) (body : Fin 16 → P F → P F) (K : P F)
    (Q : PUnit → sProp 𝕄)
    (hb : ∀ (k : Fin 16) (K' : P F), a ≤ k.val → k.val < b →
      iprop(R ∗ S k.val ∗ Φ k ∗ (iprop(S (k.val + 1) ∗ Ψ k) -∗ W c K' Q)) ⊢ W c (body k K') Q) :
    ∀ (n lo : Nat) (hl : lo + n ≤ 16), a ≤ lo → lo + n ≤ b →
      iprop(R ∗ S lo ∗ along Φ n lo hl ∗ (iprop(S (lo + n) ∗ along Ψ n lo hl) -∗ W c K Q)) ⊢ W c (loop body K n lo hl) Q
  | 0, lo, hl, ha, hb' => by
    unfold along loop
    iintro ⟨-, HS, -, Hk⟩
    iapply Hk
    isplitl [HS]; · iexact HS
    iempintro
  | n + 1, lo, hl, ha, hb' => by
    simp only [along_succ]
    unfold loop
    iintro ⟨#HR, HS, ⟨H1, H2⟩, Hk⟩
    have h1 : lo < 16 := by omega
    have h2 : lo + 1 + n ≤ 16 := by omega
    have h3 : a ≤ lo + 1 := by omega
    have h4 : lo < b := by omega
    have h5 : lo + 1 + n ≤ b := by omega
    iapply (hb ⟨lo, h1⟩ _ ha h4)
    isplitr; · iexact HR
    isplitl [HS]; · iexact HS
    isplitl [H1]; · iexact H1
    iintro ⟨HS, H1⟩
    iapply (wp_loop c a b S Φ Ψ body K Q hb n (lo + 1) h2 h3 h5)
    isplitr; · iexact HR
    isplitl [HS]; · iexact HS
    isplitl [H2]; · iexact H2
    iintro ⟨HS, H2⟩
    iapply Hk
    rw [show lo + 1 + n = lo + (n + 1) from by omega]
    isplitl [HS]; · iexact HS
    isplitl [H1] <;> iassumption

/-- The same over the four quarters, with a state only. -/
theorem wp_loop4 (c : Dev nD) (S : Nat → sProp 𝕄) (body : Fin 4 → P F → P F) (K : P F)
    (Q : PUnit → sProp 𝕄)
    (hb : ∀ (k : Fin 4) (K' : P F), iprop(S k.val ∗ (S (k.val + 1) -∗ W c K' Q)) ⊢ W c (body k K') Q) :
    ∀ (n lo : Nat) (hl : lo + n ≤ 4),
      iprop(S lo ∗ (S (lo + n) -∗ W c K Q)) ⊢ W c (loop4 body K n lo hl) Q
  | 0, lo, hl => by
    unfold loop4
    iintro ⟨HS, Hk⟩
    iapply Hk; iexact HS
  | n + 1, lo, hl => by
    unfold loop4
    iintro ⟨HS, Hk⟩
    have h1 : lo < 4 := by omega
    have h2 : lo + 1 + n ≤ 4 := by omega
    iapply (hb ⟨lo, h1⟩ _)
    isplitl [HS]; · iexact HS
    iintro HS
    iapply (wp_loop4 c S body K Q hb n (lo + 1) h2)
    isplitl [HS]; · iexact HS
    rw [show lo + 1 + n = lo + (n + 1) from by omega]
    iexact Hk

/-- A loop that only reads `A` and folds a value: iteration `k` takes the value `s` to `step k s`. -/
theorem wp_loopS (c : Dev nD) {σ : Type} (A : sProp 𝕄) (step : Fin 16 → σ → σ) (body : Fin 16 → σ → (σ → P F) → P F) (K : σ → P F)
    (Q : PUnit → sProp 𝕄)
    (hb : ∀ (k : Fin 16) (s : σ) (K' : σ → P F), iprop(A ∗ (A -∗ W c (K' (step k s)) Q)) ⊢ W c (body k s K') Q) :
    ∀ (n lo : Nat) (hl : lo + n ≤ 16) (s : σ),
      iprop(A ∗ (A -∗ W c (K ((List.finRange 16).drop lo |>.take n |>.foldl (fun s k => step k s) s)) Q)) ⊢ W c (loopS body K n lo hl s) Q
  | 0, lo, hl, s => by
    unfold loopS
    iintro ⟨HS, Hk⟩
    iapply Hk; iexact HS
  | n + 1, lo, hl, s => by
    unfold loopS
    have hd : (List.finRange 16).drop lo = ⟨lo, by omega⟩ :: (List.finRange 16).drop (lo + 1) := by
      rw [List.drop_eq_getElem_cons (by simp; omega)]
      congr 1
      simp
    rw [hd, List.take_succ_cons, List.foldl_cons]
    iintro ⟨HS, Hk⟩
    have h1 : lo < 16 := by omega
    have h2 : lo + 1 + n ≤ 16 := by omega
    iapply (hb ⟨lo, h1⟩ s _)
    isplitl [HS]; · iexact HS
    iintro HS
    iapply (wp_loopS c A step body K Q hb n (lo + 1) h2 _)
    isplitl [HS]; · iexact HS
    iexact Hk

/-! ## The buffers and the semaphores -/

abbrev M0 : Memref sig .tc .vmem S256x4096 .f32 := Memref.whole cc0_stg0_0
abbrev M1 : Memref sig .tc .hbm S4096x8192 .f32 := Memref.whole main_arg1
abbrev M2 : Memref sig .tc .vmem S4096x512 .f32 := Memref.whole cc0_stg1_0
abbrev M3 : Memref sig .tc .vmem S3x256x8192 .f32 := Memref.whole cc0_scratch0
abbrev M4 : Memref sig .tc .vmem S16x256x512 .f32 := Memref.whole cc0_scratch1
abbrev M5 : Memref sig .tc .vmem S16x256x512 .i8 := Memref.whole cc0_scratch2
abbrev M6 : Memref sig .tc .vmem S16x256x512 .i8 := Memref.whole cc0_scratch3
abbrev M7 : Memref sig .tc .vmem S16x8x128 .f32 := Memref.whole cc0_scratch4

/-- The semaphore below 69 numbered `i`. -/
abbrev dm (i : Nat) (h : i < 69) : DmaSem sig := ⟨i, h⟩

theorem wslot_sem : ∀ p : Fin 16, (wslot cc0_scratch5 p).sem = dm (2 + p.val % 3) (by omega) := by decide
theorem dsnd_sem : ∀ k : Fin 16, (slot cc0_scratch6 k).sem = dm (5 + k.val) (by omega) := by decide
theorem drcv_sem : ∀ k : Fin 16, (slot cc0_scratch7 k).sem = dm (21 + k.val) (by omega) := by decide
theorem asnd_sem : ∀ k : Fin 16, (slot cc0_scratch8 k).sem = dm (37 + k.val) (by omega) := by decide
theorem arcv_sem : ∀ k : Fin 16, (slot cc0_scratch9 k).sem = dm (53 + k.val) (by omega) := by decide

/-! ## Slots -/

/-- The elements of slot `k` of a tile buffer; where an element sits in its slot. -/
def tset (k : Fin 16) : Finset S16x256x512.Idx := Finset.univ.filter fun i => (i 0).val = k.val
def sl (i : S16x256x512.Idx) : Fin 16 := i 0
def pk (i : S16x256x512.Idx) : S1x256x512.Idx := fun a => match a with
  | ⟨0, _⟩ => ⟨0, Nat.one_pos⟩ | ⟨1, _⟩ => i 1 | ⟨2, _⟩ => i 2

theorem sl_emb (k : Fin 16) (j : S1x256x512.Idx) : sl ((rectT k).emb j) = k := by
  refine Fin.ext ?_
  have h0 : (j 0).val < 1 := (j 0).isLt
  show k.val + 1 * (j 0).val = k.val
  omega
theorem pk_emb (k : Fin 16) (j : S1x256x512.Idx) : pk ((rectT k).emb j) = j := by
  funext a; refine Fin.ext ?_
  have h0 : (j 0).val < 1 := (j 0).isLt
  match a with
  | ⟨0, _⟩ => show 0 = (j 0).val; omega
  | ⟨1, _⟩ => show 0 + 1 * (j 1).val = (j 1).val; omega
  | ⟨2, _⟩ => show 0 + 1 * (j 2).val = (j 2).val; omega
theorem emb_pk (k : Fin 16) (i : S16x256x512.Idx) (h : sl i = k) : (rectT k).emb (pk i) = i := by
  subst h
  funext a; refine Fin.ext ?_
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega
theorem mem_tset (k : Fin 16) (i : S16x256x512.Idx) : i ∈ tset k ↔ sl i = k := by
  unfold tset sl; rw [Finset.mem_filter]; exact ⟨fun h => Fin.ext h.2, fun h => ⟨Finset.mem_univ _, congrArg Fin.val h⟩⟩
theorem map_rectT (k : Fin 16) : Finset.univ.map (rectT k).emb = tset k := by
  ext i
  rw [mem_tset, Finset.mem_map]
  exact ⟨fun ⟨j, _, h⟩ => h ▸ sl_emb k j, fun h => ⟨pk i, Finset.mem_univ _, emb_pk k i h⟩⟩

/-- The same for the staging buffer of the maxima. -/
def aset (k : Fin 16) : Finset S16x8x128.Idx := Finset.univ.filter fun i => (i 0).val = k.val
abbrev rectA (k : Fin 16) : Rect S16x8x128 := Rect.unit (s := S16x8x128) ![k.val, 0, 0] S1x8x128.size (inbAmax k)
def slA (i : S16x8x128.Idx) : Fin 16 := i 0
theorem slA_emb (k : Fin 16) (j : S1x8x128.Idx) : slA ((rectA k).emb j) = k := by
  refine Fin.ext ?_
  have h0 : (j 0).val < 1 := (j 0).isLt
  show k.val + 1 * (j 0).val = k.val
  omega
theorem mem_aset (k : Fin 16) (i : S16x8x128.Idx) : i ∈ aset k ↔ slA i = k := by
  unfold aset slA; rw [Finset.mem_filter]; exact ⟨fun h => Fin.ext h.2, fun h => ⟨Finset.mem_univ _, congrArg Fin.val h⟩⟩
theorem map_rectA (k : Fin 16) : Finset.univ.map (rectA k).emb = aset k := by
  ext i
  rw [mem_aset, Finset.mem_map]
  refine ⟨fun ⟨j, _, h⟩ => h ▸ slA_emb k j, fun h => ⟨fun a => match a with
    | ⟨0, _⟩ => ⟨0, Nat.one_pos⟩ | ⟨1, _⟩ => i 1 | ⟨2, _⟩ => i 2, Finset.mem_univ _, ?_⟩⟩
  subst h
  funext a; refine Fin.ext ?_
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega

/-- The three slots of the weight buffer. -/
def wset (p : Fin 16) : Finset S3x256x8192.Idx := Finset.univ.filter fun i => (i 0).val = p.val % 3
abbrev rectW (p : Fin 16) : Rect S3x256x8192 := Rect.unit (s := S3x256x8192) ![p.val % 3, 0, 0] S1x256x8192.size (inbW p)
def pkW (i : S3x256x8192.Idx) : S1x256x8192.Idx := fun a => match a with
  | ⟨0, _⟩ => ⟨0, Nat.one_pos⟩ | ⟨1, _⟩ => i 1 | ⟨2, _⟩ => i 2
theorem pkW_emb (p : Fin 16) (j : S1x256x8192.Idx) : pkW ((rectW p).emb j) = j := by
  funext a; refine Fin.ext ?_
  have h0 : (j 0).val < 1 := (j 0).isLt
  match a with
  | ⟨0, _⟩ => show 0 = (j 0).val; omega
  | ⟨1, _⟩ => show 0 + 1 * (j 1).val = (j 1).val; omega
  | ⟨2, _⟩ => show 0 + 1 * (j 2).val = (j 2).val; omega
theorem map_rectW (p : Fin 16) : Finset.univ.map (rectW p).emb = wset p := by
  ext i
  unfold wset
  rw [Finset.mem_filter, Finset.mem_map]
  constructor
  · rintro ⟨j, _, rfl⟩
    have h0 : (j 0).val < 1 := (j 0).isLt
    refine ⟨Finset.mem_univ _, ?_⟩
    show p.val % 3 + 1 * (j 0).val = p.val % 3
    omega
  · rintro ⟨_, h⟩
    refine ⟨pkW i, Finset.mem_univ _, ?_⟩
    funext a; refine Fin.ext ?_
    match a with
    | ⟨0, _⟩ => show p.val % 3 + 1 * 0 = (i 0).val; omega
    | ⟨1, _⟩ => show 0 + 1 * (i 1).val = (i 1).val; omega
    | ⟨2, _⟩ => show 0 + 1 * (i 2).val = (i 2).val; omega

/-- The row panels of the weights. -/
def hset (p : Fin 16) : Finset S4096x8192.Idx := Finset.univ.filter fun i => (i 0).val / 256 = p.val
abbrev rectH (p : Fin 16) : Rect S4096x8192 := Rect.unit (s := S4096x8192) ![p.val * 256, 0] S256x8192.size (inbHbm p)
theorem map_rectH (p : Fin 16) : Finset.univ.map (rectH p).emb = hset p := by
  ext i
  unfold hset
  rw [Finset.mem_filter, Finset.mem_map]
  constructor
  · rintro ⟨j, _, rfl⟩
    have h0 : (j 0).val < 256 := (j 0).isLt
    refine ⟨Finset.mem_univ _, ?_⟩
    show (p.val * 256 + 1 * (j 0).val) / 256 = p.val
    omega
  · rintro ⟨_, h⟩
    refine ⟨fun a => match a with
      | ⟨0, _⟩ => ⟨(i 0).val % 256, Nat.mod_lt _ (by decide)⟩ | ⟨1, _⟩ => i 1, Finset.mem_univ _, ?_⟩
    funext a; refine Fin.ext ?_
    match a with
    | ⟨0, _⟩ => show p.val * 256 + 1 * ((i 0).val % 256) = (i 0).val; omega
    | ⟨1, _⟩ => show 0 + 1 * (i 1).val = (i 1).val; omega

theorem rectT_set (k : Fin 16) : (rectT k).set = tset k := (Rect.map_emb_univ _).symm.trans (map_rectT k)
theorem rectA_set (k : Fin 16) : (rectA k).set = aset k := (Rect.map_emb_univ _).symm.trans (map_rectA k)
theorem rectW_set (k : Fin 16) : (rectW k).set = wset k := (Rect.map_emb_univ _).symm.trans (map_rectW k)
theorem rectH_set (k : Fin 16) : (rectH k).set = hset k := (Rect.map_emb_univ _).symm.trans (map_rectH k)
theorem stg_set (k : Fin 16) : (stg M6 k).view.set = tset k := by
  simp only [Memref.view_squeeze, View.set_reshape]
  exact (View.set_slice_whole _ _).trans (rectT_set k)
theorem snd_set (k : Fin 16) : (snd M5 k).view.set = tset k := by
  simp only [Memref.view_squeeze, View.set_reshape]
  exact (View.set_slice_whole _ _).trans (rectT_set k)
theorem amx_set (k : Fin 16) : (amx M7 k).view.set = aset k := by
  simp only [Memref.view_squeeze, View.set_reshape]
  exact (View.set_slice_whole _ _).trans (rectA_set k)
theorem wbuf_set (k : Fin 16) : (wbuf M3 k).view.set = wset k := by
  simp only [Memref.view_squeeze, View.set_reshape]
  exact (View.set_slice_whole _ _).trans (rectW_set k)
theorem whbm_set (k : Fin 16) : (whbm M1 k).view.set = hset k :=
  (View.set_slice_whole _ _).trans (rectH_set k)

theorem hset_cover : Finset.univ.biUnion hset = Finset.univ := by
  ext i
  simp only [Finset.mem_biUnion, Finset.mem_univ, true_and, iff_true]
  have h : (i 0).val < 4096 := (i 0).isLt
  exact ⟨⟨(i 0).val / 256, by omega⟩, Finset.mem_filter.mpr ⟨Finset.mem_univ _, rfl⟩⟩
theorem tset_cover : Finset.univ.biUnion tset = Finset.univ := by
  ext i
  simp only [Finset.mem_biUnion, Finset.mem_univ, true_and, iff_true]
  exact ⟨sl i, (mem_tset _ _).mpr rfl⟩
theorem aset_cover : Finset.univ.biUnion aset = Finset.univ := by
  ext i
  simp only [Finset.mem_biUnion, Finset.mem_univ, true_and, iff_true]
  exact ⟨slA i, (mem_aset _ _).mpr rfl⟩
theorem tset_disj : Set.PairwiseDisjoint (↑(Finset.univ : Finset (Fin 16))) tset := by
  intro a _ b _ hab
  refine Finset.disjoint_left.mpr fun i ha hb => hab ?_
  rw [mem_tset] at ha hb; exact ha.symm.trans hb
theorem aset_disj : Set.PairwiseDisjoint (↑(Finset.univ : Finset (Fin 16))) aset := by
  intro a _ b _ hab
  refine Finset.disjoint_left.mpr fun i ha hb => hab ?_
  rw [mem_aset] at ha hb; exact ha.symm.trans hb
theorem hset_disj : Set.PairwiseDisjoint (↑(Finset.univ : Finset (Fin 16))) hset := by
  intro a _ b _ hab
  refine Finset.disjoint_left.mpr fun i ha hb => hab (Fin.ext ?_)
  exact (Finset.mem_filter.mp ha).2.symm.trans (Finset.mem_filter.mp hb).2
theorem wset_cover : (Finset.univ : Finset (Fin 3)).biUnion (fun b => wset ⟨b.val, by omega⟩) = Finset.univ := by
  ext i
  simp only [Finset.mem_biUnion, Finset.mem_univ, true_and, iff_true]
  have h : (i 0).val < 3 := (i 0).isLt
  refine ⟨⟨(i 0).val, h⟩, Finset.mem_filter.mpr ⟨Finset.mem_univ _, ?_⟩⟩
  show (i 0).val = (i 0).val % 3
  omega
theorem wset_disj : Set.PairwiseDisjoint (↑(Finset.univ : Finset (Fin 3))) (fun b : Fin 3 => wset ⟨b.val, by omega⟩) := by
  intro a _ b _ hab
  refine Finset.disjoint_left.mpr fun i ha hb => hab (Fin.ext ?_)
  have h1 := (Finset.mem_filter.mp ha).2
  have h2 := (Finset.mem_filter.mp hb).2
  simp only at h1 h2
  omega

end Cert.KernelIdeal.Kern

end
-- ==== Proof.Kern.Proto.lean ====
/- The protocol.

   Every device's barrier cell is awaited by the device itself for fifteen units. Duty `j` of it
   is the signal of the device `j` ahead, which hands over slot `j` of its two landing buffers
   (the quantised tiles' and the maxima's), at any contents: the slots this device will copy into.

   Every copy of a weight panel pays one round of one of the three weight cells: it hands back the
   panel's rows and the slot of the weight buffer holding them. Cell `b` sees the panels
   `b, b + 3, b + 6, …`, one per round.

   The copy of a device's maximum to the device `k` ahead pays the one duty of that device's cell
   `k` of the fourth row, handing over slot `k` holding the maximum, and the one duty of the
   sender's cell `k` of the third row, handing the share of slot 0 lent to it back.

   The copy of a quantised tile to the device `k` ahead pays the one duty of that device's cell `k`
   of the second row, handing over slot `k` holding the tile, and the one duty of the sender's
   cell `k` of the first row, handing the slot of the sending buffer back.

   A device waits in this order: barrier, weight cells, maxima received, tiles received, copies
   sent. It still owes, at each of these waits, only cells that come later in the order. -/
module

public import proofs.«01_k».proof.Proof.Kern.Loops

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Devices -/

/-- The device `k` ahead, and the device `k` behind. -/
def up (c : Dev nD) (k : Fin 16) : Dev nD := (show Fin 16 from c) + k
def dn (c : Dev nD) (k : Fin 16) : Dev nD := (show Fin 16 from c) - k

theorem dn_up : ∀ (c : Dev nD) (k : Fin 16), dn (up c k) k = c := by decide +kernel
theorem up_dn : ∀ (c : Dev nD) (k : Fin 16), up (dn c k) k = c := by decide +kernel
theorem up_neg : ∀ (c : Dev nD) (k : Fin 16), up (up c k) (-k) = c := by decide +kernel
theorem up_zero : ∀ c : Dev nD, up c 0 = c := by decide +kernel
theorem dn_zero : ∀ c : Dev nD, dn c 0 = c := by decide +kernel
theorem up_inj {c d : Dev nD} {k : Fin 16} (h : up c k = up d k) : c = d := by rw [← dn_up c k, h, dn_up]
theorem up_val (c : Dev nD) (k : Fin 16) : (up c k).val = (c.val + k.val) % 16 := Fin.val_add (n := 16) c k
theorem dn_val : ∀ (c : Dev nD) (k : Fin 16), (dn c k).val = (c.val + (16 - k.val)) % 16 := by decide +kernel

theorem sigDev_up (d : Dev nD) (k : Fin 16) (h : 1 ≤ k.val) : (⟨sigDev d k, sigDev_lt d k⟩ : Dev nD) = up d k :=
  Fin.ext ((sigDev_eq d k h).trans (up_val d k).symm)
theorem maxDev_up (d : Dev nD) (k : Fin 16) (h : 1 ≤ k.val) : (⟨maxDev d k, maxDev_lt d k⟩ : Dev nD) = up d k :=
  Fin.ext ((maxDev_eq d k h).trans (up_val d k).symm)
theorem datDev_up (d : Dev nD) (k : Fin 16) (h : 1 ≤ k.val) : (⟨datDev d k, datDev_lt d k⟩ : Dev nD) = up d k :=
  Fin.ext ((datDev_eq d k h).trans (up_val d k).symm)

/-! ## Contents -/

/-- A number as an index below sixteen. -/
def pm (n : ℕ) : Fin 16 := ⟨n % 16, Nat.mod_lt _ (by decide)⟩
theorem pm_val (k : Fin 16) : pm k.val = k := Fin.ext (Nat.mod_eq_of_lt k.isLt)

/-- The quarter and the place in it of a tile. -/
def tq (t : Fin 16) : Fin 4 := ⟨t.val / 4, by omega⟩
def tt (t : Fin 16) : Fin 4 := ⟨t.val % 4, by omega⟩
theorem tq_tileOf (q t : Fin 4) : tq (tileOf q t) = q := Fin.ext (show (q.val * 4 + t.val) / 4 = q.val by omega)
theorem tt_tileOf (q t : Fin 4) : tt (tileOf q t) = t := Fin.ext (show (q.val * 4 + t.val) % 4 = t.val by omega)

/-- Device `c`'s rows of the left operand. -/
def xin (c : Dev nD) : (cc0_stg0_0 : Ref sig .tc).ty.Contents (Elt F) :=
  (win0_0.blk (0 : Fin 1)).view.read (Elt F) (m ((c : Thread nD τ).loc main_arg0))
def xv (c : Dev nD) : FVec F S256x4096 .f32 := shapeCast S256x4096 (show Vec F S256x4096 .f32 from xin m c) shapeCasts_S256x4096_S256x4096

/-- Weight panel `p`, as a slot of the weight buffer holds it. -/
def wv (c : Dev nD) (p : Fin 16) : Vec F S1x256x8192 .f32 := fun j =>
  (whbm M1 p).view.read (Elt F) (m ((c : Thread nD τ).loc main_arg1)) ((Shape.reshapeEquiv squeezes_S1x256x8192_S256x8192.numel_eq).symm j)
def wcont (c : Dev nD) (p : Fin 16) : (cc0_scratch0 : Ref sig .tc).ty.Contents (Elt F) := fun i => wv m c p (pkW i)

/-- The accumulated product of tile `t` after `n` panels. -/
def acc (c : Dev nD) : ℕ → Fin 16 → Vec F S1x256x512 .f32
  | 0, _ => fun _ => Scalar.ofBits .f32 0x00000000#32
  | n + 1, t => if n = 0 then tileSet (xv m c) (pm n) (wv m c (pm n)) (tq t) (tt t)
      else tileAdd (xv m c) (pm n) (wv m c (pm n)) (tq t) (tt t) (acc c n t)

def res (c : Dev nD) (t : Fin 16) : Vec F S1x256x512 .f32 := acc m c 16 t
def resC (c : Dev nD) : (cc0_scratch1 : Ref sig .tc).ty.Contents (Elt F) := fun i => res m c (sl i) (pk i)

/-- The maximum over device `c`'s tiles. -/
def locMax (c : Dev nD) : F .f32 :=
  (List.finRange 16).foldl (fun s t => Scalar.maximumf s (tileMax (res m c t))) (Scalar.ofBits .f32 0x00000000#32)

/-- The gathered maxima: slot `k` holds that of the device `k` behind. -/
def amaxC (c : Dev nD) : (cc0_scratch4 : Ref sig .tc).ty.Contents (Elt F) := fun i =>
  Scalar.maximumf (locMax m (dn c (slA i))) (Scalar.ofBits .f32 0x00000000#32)

/-- The maximum of all, as device `c` computes it. -/
def gm (c : Dev nD) : F .f32 :=
  gmaxOf (M7.view.readAt (Elt F) (Rect.unit (s := S16x8x128) ![0, 0, 0] S16x1x1.size inb_S16x8x128_S16x1x1_0_0_0).toLoadRect (amaxC m c))

/-- Device `s`'s quantised tile `t`. -/
def Q (s : Dev nD) (t : Fin 16) : IVec S1x256x512 8 := quant (invScaleOf (gm m s)) (res m s t)

/-- The sending buffer of device `c`: slot `k` holds the tile for the device `k` ahead. -/
def sndC (c : Dev nD) : (cc0_scratch2 : Ref sig .tc).ty.Contents (Elt F) := fun i => Q m c (up c (sl i)) (pk i)
/-- The landing buffer of device `c`: slot `k` holds the tile of the device `k` behind. -/
def stgC (c : Dev nD) : (cc0_scratch3 : Ref sig .tc).ty.Contents (Elt F) := fun i => Q m (dn c (sl i)) c (pk i)

/-- The result of device `c`. -/
def outC (c : Dev nD) : (cc0_stg1_0 : Ref sig .tc).ty.Contents (Elt F) := fun i =>
  dequant (F := F) (scaleOf (gm m c)) (Q m (pm ((i (0 : Fin 2)).val / 256)) c)
    (fun a => match a with | ⟨0, _⟩ => ⟨(i (0 : Fin 2)).val % 256, Nat.mod_lt _ (by decide)⟩ | ⟨1, _⟩ => i (1 : Fin 2))

/-! ## Shares of slot 0 of the maxima, one lent to each copy -/

def remS : ℕ → PosShare TreeShare
  | 0 => fullShare.right
  | n + 1 => (remS n).right
def pieceS (n : ℕ) : PosShare TreeShare := (remS n).left

/-! ## The pieces of memory -/

section Pieces
variable (c : Dev nD)

def stgP (k : Fin 16) (f : Buf (Elt F) ((c : Thread nD τ).loc cc0_scratch3)) : sProp 𝕄 :=
  ((c : Thread nD τ).loc cc0_scratch3) ↦[tset k]{fullShare} f
def sndP (k : Fin 16) (f : Buf (Elt F) ((c : Thread nD τ).loc cc0_scratch2)) : sProp 𝕄 :=
  ((c : Thread nD τ).loc cc0_scratch2) ↦[tset k]{fullShare} f
def amxP (k : Fin 16) (q : PosShare TreeShare) (f : Buf (Elt F) ((c : Thread nD τ).loc cc0_scratch4)) : sProp 𝕄 :=
  ((c : Thread nD τ).loc cc0_scratch4) ↦[aset k]{q} f
def wP (p : Fin 16) (f : Buf (Elt F) ((c : Thread nD τ).loc cc0_scratch0)) : sProp 𝕄 :=
  ((c : Thread nD τ).loc cc0_scratch0) ↦[wset p]{fullShare} f
def hP (p : Fin 16) : sProp 𝕄 :=
  ((c : Thread nD τ).loc main_arg1) ↦[hset p]{fullShare} m ((c : Thread nD τ).loc main_arg1)

/-- What a barrier duty, a weight copy, a tile's copy at its two ends and a maximum's at its two ends hand over. -/
def barPay (j : Fin 16) : sProp 𝕄 := iprop((∃ f, stgP (up c j) j f) ∗ ∃ f, amxP (up c j) j fullShare f)
def wPay (p : Fin 16) : sProp 𝕄 := iprop(wP c p (wcont m c p) ∗ hP m c p)
def sndPay (k : Fin 16) : sProp 𝕄 := sndP c k (sndC m c)
def stgPay (k : Fin 16) : sProp 𝕄 := stgP c k (stgC m c)
def asndPay (k : Fin 16) : sProp 𝕄 := amxP c 0 (pieceS k.val) (amaxC m c)
def arcvPay (k : Fin 16) : sProp 𝕄 := amxP c k fullShare (amaxC m c)

end Pieces

/-! ## The cells -/

abbrev barCell (c : Dev nD) : GSem nD τ sig := ((c : Thread nD τ), .reg barS.sem)
abbrev wCell (c : Dev nD) (p : Fin 16) : GSem nD τ sig := ((c : Thread nD τ), .dma (wslot cc0_scratch5 p).sem)
abbrev dsnd (c : Dev nD) (k : Fin 16) : GSem nD τ sig := ((c : Thread nD τ), .dma (slot cc0_scratch6 k).sem)
abbrev drcv (c : Dev nD) (k : Fin 16) : GSem nD τ sig := ((c : Thread nD τ), .dma (slot cc0_scratch7 k).sem)
abbrev asnd (c : Dev nD) (k : Fin 16) : GSem nD τ sig := ((c : Thread nD τ), .dma (slot cc0_scratch8 k).sem)
abbrev arcv (c : Dev nD) (k : Fin 16) : GSem nD τ sig := ((c : Thread nD τ), .dma (slot cc0_scratch9 k).sem)

def Nw : ℕ := (wbuf M3 0).view.dmaCredit
def Nd : ℕ := (stg M6 0).view.dmaCredit
def Na : ℕ := (amx M7 0).view.dmaCredit
theorem Nw_pos : 0 < Nw := View.dmaCredit_pos _ (by decide)
theorem Nd_pos : 0 < Nd := View.dmaCredit_pos _ (by decide)
theorem Na_pos : 0 < Na := View.dmaCredit_pos _ (by decide)
theorem credit_w (p : Fin 16) : (wbuf M3 p).view.dmaCredit = Nw := rfl
theorem credit_stg (k : Fin 16) : (stg M6 k).view.dmaCredit = Nd := rfl
theorem credit_snd (k : Fin 16) : (snd M5 k).view.dmaCredit = Nd := rfl
theorem credit_amx (k : Fin 16) : (amx M7 k).view.dmaCredit = Na := rfl

/-! ## The schedule -/

/-- What a transfer's cell pays at round `r`, and what it hands over. -/
def dmaDuties (s r : ℕ) : Finset (Fin 16) :=
  if s < 2 then ∅
  else if s < 5 then (if 3 * r + (s - 2) < 16 then {0} else ∅)
  else if r = 0 ∧ (s - 5) % 16 ≠ 0 then {0} else ∅
def dmaAmount (s : ℕ) : ℕ := if s < 5 then Nw else if s < 37 then Nd else Na
def dmaPay (c : Dev nD) (s r : ℕ) : sProp 𝕄 :=
  if s < 5 then wPay m c (pm (3 * r + (s - 2)))
  else if s < 21 then sndPay m c (pm (s - 5))
  else if s < 37 then stgPay m c (pm (s - 21))
  else if s < 53 then asndPay m c (pm (s - 37))
  else arcvPay m c (pm (s - 53))

def Rd : Rounds.Schedule (GSem nD τ sig) (Fin 16) 𝕄 where
  duties g r := match g.2 with
    | .reg _ => if r = 0 then Finset.univ.filter (fun j => j ≠ 0) else ∅
    | .dma s => dmaDuties s.val r
  unitless _ := False
  amount g _ _ := match g.2 with
    | .reg _ => 1
    | .dma s => dmaAmount s.val
  payload g r d := match g.2 with
    | .reg _ => barPay g.1.1 d
    | .dma s => dmaPay m g.1.1 s.val r
  amount_pos g _ _ _ := by
    rcases g with ⟨_, _ | s⟩
    · exact Nat.one_pos
    · show 0 < dmaAmount s.val
      unfold dmaAmount
      split
      · exact Nw_pos
      · split
        · exact Nd_pos
        · exact Na_pos

instance barPay_storable (c : Dev nD) (j : Fin 16) : BI.Storable (upEmb : UEmb _ 𝕄) (barPay (F := F) c j) := by
  unfold barPay stgP amxP; infer_instance
instance dmaPay_storable (c : Dev nD) (s r : ℕ) : BI.Storable (upEmb : UEmb _ 𝕄) (dmaPay m c s r) := by
  unfold dmaPay wPay sndPay stgPay asndPay arcvPay wP hP sndP stgP amxP
  (repeat' split) <;> infer_instance
instance Rd_payload_storable (g : GSem nD τ sig) (r : ℕ) (d : Fin 16) : BI.Storable (upEmb : UEmb _ 𝕄) ((Rd m).payload g r d) := by
  rcases g with ⟨⟨c, _⟩, _ | s⟩
  · show BI.Storable (upEmb : UEmb _ 𝕄) (barPay (F := F) c d); infer_instance
  · show BI.Storable (upEmb : UEmb _ 𝕄) (dmaPay m c s.val r); infer_instance

section Sched
variable (c : Dev nD) (k : Fin 16)

theorem duties_bar : (Rd m).duties (barCell c) 0 = Finset.univ.filter (fun j => j ≠ 0) := rfl
theorem amount_bar (j : Fin 16) : (Rd m).amount (barCell c) 0 j = 1 := rfl
theorem payload_bar (j : Fin 16) : (Rd m).payload (barCell c) 0 j = barPay c j := rfl
theorem expect_bar : (Rd m).expect (barCell c) 0 = 15 := by
  unfold Schedule.expect Schedule.amountOf
  rw [duties_bar, Finset.sum_congr rfl fun d _ => amount_bar m c d, Finset.sum_const]
  decide

theorem duties_w (p : Fin 16) : (Rd m).duties (wCell c p) (p.val / 3) = {0} := by
  show dmaDuties (wslot cc0_scratch5 p).sem.val (p.val / 3) = _
  rw [wslot_sem]; unfold dmaDuties
  show (if 2 + p.val % 3 < 2 then _ else if 2 + p.val % 3 < 5 then (if 3 * (p.val / 3) + (2 + p.val % 3 - 2) < 16 then _ else _) else _) = _
  rw [if_neg (by omega), if_pos (by omega), if_pos (by omega)]
theorem amount_w (p : Fin 16) (r : ℕ) (d : Fin 16) : (Rd m).amount (wCell c p) r d = Nw := by
  show dmaAmount (wslot cc0_scratch5 p).sem.val = _
  rw [wslot_sem]; exact if_pos (show 2 + p.val % 3 < 5 by omega)
theorem payload_w (p : Fin 16) (d : Fin 16) : (Rd m).payload (wCell c p) (p.val / 3) d = wPay m c p := by
  show dmaPay m c (wslot cc0_scratch5 p).sem.val (p.val / 3) = _
  rw [wslot_sem]
  show (if 2 + p.val % 3 < 5 then wPay m c (pm (3 * (p.val / 3) + (2 + p.val % 3 - 2))) else _) = _
  rw [if_pos (by omega), show 3 * (p.val / 3) + (2 + p.val % 3 - 2) = p.val by omega, pm_val]

theorem duties_dsnd (h : 1 ≤ k.val) : (Rd m).duties (dsnd c k) 0 = {0} := by
  show dmaDuties (slot cc0_scratch6 k).sem.val 0 = _
  rw [dsnd_sem]
  show (if 5 + k.val < 2 then _ else if 5 + k.val < 5 then _ else if 0 = 0 ∧ (5 + k.val - 5) % 16 ≠ 0 then _ else _) = _
  rw [if_neg (by omega), if_neg (by omega), if_pos (by omega)]
theorem amount_dsnd (r : ℕ) (d : Fin 16) : (Rd m).amount (dsnd c k) r d = Nd := by
  show dmaAmount (slot cc0_scratch6 k).sem.val = _
  rw [dsnd_sem]; show (if 5 + k.val < 5 then _ else if 5 + k.val < 37 then _ else _) = _
  rw [if_neg (by omega), if_pos (by omega)]
theorem payload_dsnd (d : Fin 16) : (Rd m).payload (dsnd c k) 0 d = sndPay m c k := by
  show dmaPay m c (slot cc0_scratch6 k).sem.val 0 = _
  rw [dsnd_sem]
  show (if 5 + k.val < 5 then _ else if 5 + k.val < 21 then sndPay m c (pm (5 + k.val - 5)) else _) = _
  rw [if_neg (by omega), if_pos (by omega), Nat.add_sub_cancel_left, pm_val]

theorem duties_drcv (h : 1 ≤ k.val) : (Rd m).duties (drcv c k) 0 = {0} := by
  show dmaDuties (slot cc0_scratch7 k).sem.val 0 = _
  rw [drcv_sem]
  show (if 21 + k.val < 2 then _ else if 21 + k.val < 5 then _ else if 0 = 0 ∧ (21 + k.val - 5) % 16 ≠ 0 then _ else _) = _
  rw [if_neg (by omega), if_neg (by omega), if_pos (by omega)]
theorem amount_drcv (r : ℕ) (d : Fin 16) : (Rd m).amount (drcv c k) r d = Nd := by
  show dmaAmount (slot cc0_scratch7 k).sem.val = _
  rw [drcv_sem]; show (if 21 + k.val < 5 then _ else if 21 + k.val < 37 then _ else _) = _
  rw [if_neg (by omega), if_pos (by omega)]
theorem payload_drcv (d : Fin 16) : (Rd m).payload (drcv c k) 0 d = stgPay m c k := by
  show dmaPay m c (slot cc0_scratch7 k).sem.val 0 = _
  rw [drcv_sem]
  show (if 21 + k.val < 5 then _ else if 21 + k.val < 21 then _ else if 21 + k.val < 37 then stgPay m c (pm (21 + k.val - 21)) else _) = _
  rw [if_neg (by omega), if_neg (by omega), if_pos (by omega), Nat.add_sub_cancel_left, pm_val]

theorem duties_asnd (h : 1 ≤ k.val) : (Rd m).duties (asnd c k) 0 = {0} := by
  show dmaDuties (slot cc0_scratch8 k).sem.val 0 = _
  rw [asnd_sem]
  show (if 37 + k.val < 2 then _ else if 37 + k.val < 5 then _ else if 0 = 0 ∧ (37 + k.val - 5) % 16 ≠ 0 then _ else _) = _
  rw [if_neg (by omega), if_neg (by omega), if_pos (by omega)]
theorem amount_asnd (r : ℕ) (d : Fin 16) : (Rd m).amount (asnd c k) r d = Na := by
  show dmaAmount (slot cc0_scratch8 k).sem.val = _
  rw [asnd_sem]; show (if 37 + k.val < 5 then _ else if 37 + k.val < 37 then _ else _) = _
  rw [if_neg (by omega), if_neg (by omega)]
theorem payload_asnd (d : Fin 16) : (Rd m).payload (asnd c k) 0 d = asndPay m c k := by
  show dmaPay m c (slot cc0_scratch8 k).sem.val 0 = _
  rw [asnd_sem]
  show (if 37 + k.val < 5 then _ else if 37 + k.val < 21 then _ else if 37 + k.val < 37 then _ else if 37 + k.val < 53 then asndPay m c (pm (37 + k.val - 37)) else _) = _
  rw [if_neg (by omega), if_neg (by omega), if_neg (by omega), if_pos (by omega), Nat.add_sub_cancel_left, pm_val]

theorem duties_arcv (h : 1 ≤ k.val) : (Rd m).duties (arcv c k) 0 = {0} := by
  show dmaDuties (slot cc0_scratch9 k).sem.val 0 = _
  rw [arcv_sem]
  show (if 53 + k.val < 2 then _ else if 53 + k.val < 5 then _ else if 0 = 0 ∧ (53 + k.val - 5) % 16 ≠ 0 then _ else _) = _
  rw [if_neg (by omega), if_neg (by omega), if_pos (by omega)]
theorem amount_arcv (r : ℕ) (d : Fin 16) : (Rd m).amount (arcv c k) r d = Na := by
  show dmaAmount (slot cc0_scratch9 k).sem.val = _
  rw [arcv_sem]; show (if 53 + k.val < 5 then _ else if 53 + k.val < 37 then _ else _) = _
  rw [if_neg (by omega), if_neg (by omega)]
theorem payload_arcv (d : Fin 16) : (Rd m).payload (arcv c k) 0 d = arcvPay m c k := by
  show dmaPay m c (slot cc0_scratch9 k).sem.val 0 = _
  rw [arcv_sem]
  show (if 53 + k.val < 5 then _ else if 53 + k.val < 21 then _ else if 53 + k.val < 37 then _ else if 53 + k.val < 53 then _ else arcvPay m c (pm (53 + k.val - 53))) = _
  rw [if_neg (by omega), if_neg (by omega), if_neg (by omega), if_neg (by omega), Nat.add_sub_cancel_left, pm_val]

/-- A round of one duty expects that duty's amount and hands its payload over. -/
theorem expect_one (g : GSem nD τ sig) (r n : ℕ) (hd : (Rd m).duties g r = {0}) (ha : (Rd m).amount g r 0 = n) : (Rd m).expect g r = n := by
  unfold Schedule.expect Schedule.amountOf; rw [hd, Finset.sum_singleton, ha]
theorem rest_one (g : GSem nD τ sig) (r : ℕ) (hd : (Rd m).duties g r = {0}) :
    bigSep ((Rd m).duties g r \ ∅) (fun d => (Rd m).payload g r d) = (Rd m).payload g r 0 := by
  rw [Finset.sdiff_empty, hd, bigSep_singleton]

/-- No cell has a duty past its last round. -/
theorem later_of (s : ℕ) (a : ℕ) (h : s < 5 → 16 ≤ 3 * a + (s - 2)) (h' : 5 ≤ s → 1 ≤ a ∨ (s - 5) % 16 = 0) (r : ℕ) (hr : a ≤ r) : dmaDuties s r = ∅ := by
  unfold dmaDuties
  by_cases h2 : s < 2
  · rw [if_pos h2]
  rw [if_neg h2]
  by_cases h5 : s < 5
  · rw [if_pos h5, if_neg (by have := h h5; omega)]
  · rw [if_neg h5, if_neg (by have := h' (by omega); omega)]
theorem bar_later (r : ℕ) (hr : 1 ≤ r) : (Rd m).duties (barCell c) r = ∅ :=
  if_neg (by omega)

end Sched

/-! ## What each device owes at launch; the levels -/

def oweBar (c : Dev nD) (k : Fin 16) : CellTallies nD τ sig Unit := tallyAt (barCell (up c k)) () 1
def oweMax (c : Dev nD) (k : Fin 16) : CellTallies nD τ sig Unit := tallyAt (arcv (up c k) k) () Na
def oweDat (c : Dev nD) (k : Fin 16) : CellTallies nD τ sig Unit := tallyAt (drcv (up c k) k) () Nd

def O₂ (c : Dev nD) : CellTallies nD τ sig Unit := oweSum (oweDat c) 15 1 (by decide)
def O₁ (c : Dev nD) : CellTallies nD τ sig Unit := O₂ c + oweSum (oweMax c) 15 1 (by decide)
def O₀ (c : Dev nD) : CellTallies nD τ sig Unit := O₁ c + oweSum (oweBar c) 15 1 (by decide)

def L (g : GSem nD τ sig) : Finset Unit := if g.1.2 = .tc then {()} else ∅
def lv (g : GSem nD τ sig) (_ : Unit) : ℕ := match g.2 with
  | .reg _ => 1
  | .dma s => if s.val < 21 then 0 else if s.val < 37 then 3 else if s.val < 53 then 0 else 2

theorem L_of_ne (g : GSem nD τ sig) (h : g.1.2 ≠ .tc) : L g = ∅ := if_neg h
theorem L_tc (g : GSem nD τ sig) (h : g.1.2 = .tc) : L g = {()} := if_pos h

theorem lv_bar (c : Dev nD) (u : Unit) : lv (barCell c) u = 1 := rfl
theorem lv_w (c : Dev nD) (p : Fin 16) (u : Unit) : lv (wCell c p) u = 0 := by
  show (if (wslot cc0_scratch5 p).sem.val < 21 then 0 else _) = 0
  rw [wslot_sem]; exact if_pos (show 2 + p.val % 3 < 21 by omega)
theorem lv_drcv (c : Dev nD) (k : Fin 16) (u : Unit) : lv (drcv c k) u = 3 := by
  show (if (slot cc0_scratch7 k).sem.val < 21 then 0 else if (slot cc0_scratch7 k).sem.val < 37 then 3 else _) = 3
  rw [drcv_sem, if_neg (show ¬ 21 + k.val < 21 by omega), if_pos (show 21 + k.val < 37 by omega)]
theorem lv_arcv (c : Dev nD) (k : Fin 16) (u : Unit) : lv (arcv c k) u = 2 := by
  show (if (slot cc0_scratch9 k).sem.val < 21 then 0 else if (slot cc0_scratch9 k).sem.val < 37 then 3 else if (slot cc0_scratch9 k).sem.val < 53 then 0 else 2) = 2
  rw [arcv_sem, if_neg (show ¬ 53 + k.val < 21 by omega), if_neg (show ¬ 53 + k.val < 37 by omega), if_neg (show ¬ 53 + k.val < 53 by omega)]

theorem tally_pos {g₀ g : GSem nD τ sig} {u : Unit} {n : ℕ} (h : 0 < (tallyAt g₀ () n : CellTallies nD τ sig Unit) g u) : g = g₀ := by
  rw [tallyAt_apply] at h
  by_contra hn
  rw [if_neg (fun h' => hn h'.1)] at h
  exact Nat.lt_irrefl 0 h

theorem add_pos' {A B : CellTallies nD τ sig Unit} {g : GSem nD τ sig} {u : Unit} (h : 0 < (A + B) g u) : 0 < A g u ∨ 0 < B g u := by
  rw [Pi.add_apply, Finsupp.add_apply] at h; omega

theorem O₂_pos {c : Dev nD} {g : GSem nD τ sig} {u : Unit} (h : 0 < O₂ c g u) : g.1.2 = .tc ∧ lv g u = 3 := by
  obtain ⟨k, -, hk⟩ := oweSum_pos _ _ _ _ _ _ h
  rw [tally_pos hk]; exact ⟨rfl, lv_drcv _ _ _⟩
theorem O₁_pos {c : Dev nD} {g : GSem nD τ sig} {u : Unit} (h : 0 < O₁ c g u) : g.1.2 = .tc ∧ 2 ≤ lv g u := by
  rcases add_pos' h with h | h
  · obtain ⟨h1, h2⟩ := O₂_pos h; exact ⟨h1, by omega⟩
  · obtain ⟨k, -, hk⟩ := oweSum_pos _ _ _ _ _ _ h
    rw [tally_pos hk]; exact ⟨rfl, (lv_arcv _ _ _).ge⟩
theorem O₀_pos {c : Dev nD} {g : GSem nD τ sig} {u : Unit} (h : 0 < O₀ c g u) : g.1.2 = .tc ∧ 1 ≤ lv g u := by
  rcases add_pos' h with h | h
  · obtain ⟨h1, h2⟩ := O₁_pos h; exact ⟨h1, by omega⟩
  · obtain ⟨k, -, hk⟩ := oweSum_pos _ _ _ _ _ _ h
    rw [tally_pos hk]; exact ⟨rfl, (lv_bar _ _).ge⟩

/-- A wait on a cell below every cell still owed. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc _ rfl]; exact Finset.mem_singleton_self _)
    (fun g u hg => by rw [L_tc _ (h g u hg).1]; exact Finset.mem_singleton_self _)
    (fun p hp => by rw [Finset.mem_singleton.mp hp])
    (fun g u hg => (h g u hg).2)

end Cert.KernelIdeal.Kern

end
-- ==== Proof.Kern.Access.lean ====
/- Reads and writes of a rectangle of a whole buffer, element by element. -/
module

public import proofs.«01_k».proof.Proof.Kern.Proto

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Whole
variable (b : Ref sig .tc) (r : Rect b.ty.shape)

theorem read_rect (f : b.ty.Contents (Elt F)) (j : r.shape.Idx) :
    (Memref.whole b).view.readAt (Elt F) r.toLoadRect f j = f (r.emb j) := rfl

theorem write_in (f : b.ty.Contents (Elt F)) (v : r.shape.Idx → Elt F b.ty.elt) (j : r.shape.Idx) :
    (((Memref.whole b).access r).write (Elt F) f v Finset.univ : b.ty.Contents (Elt F)) (r.emb j) = v j :=
  View.write_emb_of_mem (v := (Memref.whole b).access r) f v (Finset.mem_univ j)

theorem setOn_access : ((Memref.whole b).access r).setOn Finset.univ = r.set := by
  show Finset.univ.map ((Memref.whole b).access r).emb = _
  exact Rect.map_emb_univ r

theorem setOn_whole : (Memref.whole b).view.setOn r.toLoadRect.set = r.set := by
  ext i
  exact View.mem_setOn (v := (Memref.whole b).view) (x := i)

theorem write_out (f : b.ty.Contents (Elt F)) (v : r.shape.Idx → Elt F b.ty.elt) (i : b.ty.shape.Idx) (h : i ∉ r.set) :
    (((Memref.whole b).access r).write (Elt F) f v Finset.univ : b.ty.Contents (Elt F)) i = f i :=
  View.write_of_not_mem (v := (Memref.whole b).access r) f v Finset.univ (by rw [setOn_access]; exact h)

end Whole

/-- A tile read, and a tile written, at its slot and elsewhere. -/
theorem tile_in (f : (cc0_scratch1 : Ref sig .tc).ty.Contents (Elt F)) (t : Fin 16) (v : Vec F S1x256x512 .f32) (i : S16x256x512.Idx) (h : sl i = t) :
    (((M4.access (rectT t)).write (Elt F) f v Finset.univ : (cc0_scratch1 : Ref sig .tc).ty.Contents (Elt F)) i : F .f32) = v (pk i) := by
  have := write_in cc0_scratch1 (rectT t) f v (pk i)
  rwa [emb_pk t i h] at this
theorem tile_out (f : (cc0_scratch1 : Ref sig .tc).ty.Contents (Elt F)) (t : Fin 16) (v : Vec F S1x256x512 .f32) (i : S16x256x512.Idx) (h : sl i ≠ t) :
    (((M4.access (rectT t)).write (Elt F) f v Finset.univ : (cc0_scratch1 : Ref sig .tc).ty.Contents (Elt F)) i : F .f32) = f i :=
  write_out cc0_scratch1 (rectT t) f v i (by rw [rectT_set, mem_tset]; exact h)
theorem tile_read (f : (cc0_scratch1 : Ref sig .tc).ty.Contents (Elt F)) (g : Vec F S1x256x512 .f32) (t : Fin 16)
    (h : ∀ i, sl i = t → f i = g (pk i)) : M4.view.readAt (Elt F) (rectT t).toLoadRect f = g := by
  funext j
  refine (read_rect cc0_scratch1 (rectT t) f j).trans ?_
  rw [h _ (sl_emb t j), pk_emb]

/-- The same for the two buffers of quantised tiles. -/
theorem snd_in (f : (cc0_scratch2 : Ref sig .tc).ty.Contents (Elt F)) (t : Fin 16) (v : IVec S1x256x512 8) (i : S16x256x512.Idx) (h : sl i = t) :
    (((M5.access (rectT t)).write (Elt F) f v Finset.univ : (cc0_scratch2 : Ref sig .tc).ty.Contents (Elt F)) i : BitVec 8) = v (pk i) := by
  have := write_in cc0_scratch2 (rectT t) f v (pk i)
  rwa [emb_pk t i h] at this
theorem stg_in (f : (cc0_scratch3 : Ref sig .tc).ty.Contents (Elt F)) (t : Fin 16) (v : IVec S1x256x512 8) (i : S16x256x512.Idx) (h : sl i = t) :
    (((M6.access (rectT t)).write (Elt F) f v Finset.univ : (cc0_scratch3 : Ref sig .tc).ty.Contents (Elt F)) i : BitVec 8) = v (pk i) := by
  have := write_in cc0_scratch3 (rectT t) f v (pk i)
  rwa [emb_pk t i h] at this
theorem stg_read (f : (cc0_scratch3 : Ref sig .tc).ty.Contents (Elt F)) (g : IVec S1x256x512 8) (t : Fin 16)
    (h : ∀ i, sl i = t → f i = g (pk i)) : M6.view.readAt (Elt F) (rectT t).toLoadRect f = g := by
  funext j
  refine (read_rect cc0_scratch3 (rectT t) f j).trans ?_
  rw [h _ (sl_emb t j), pk_emb]

/-- A slot of the maxima, written with one value throughout. -/
theorem amx_in (f : (cc0_scratch4 : Ref sig .tc).ty.Contents (Elt F)) (v : Vec F S1x8x128 .f32) (x : F .f32) (hv : ∀ j, v j = x) (i : S16x8x128.Idx) (h : slA i = 0) :
    (((M7.access (rectA 0)).write (Elt F) f v Finset.univ : (cc0_scratch4 : Ref sig .tc).ty.Contents (Elt F)) i : F .f32) = x := by
  have hi : i ∈ Finset.univ.map (rectA 0).emb := by rw [map_rectA, mem_aset]; exact h
  obtain ⟨j, -, rfl⟩ := Finset.mem_map.mp hi
  exact (write_in cc0_scratch4 (rectA 0) f v j).trans (hv j)

theorem amaxSlot_apply (x : F .f32) (j : S1x8x128.Idx) : amaxSlot x j = Scalar.maximumf x (Scalar.ofBits .f32 0x00000000#32) := rfl

/-- A weight panel read. -/
theorem w_read (c : Dev nD) (m : (ℓ : Loc nD τ sig) → Buf (Elt F) ℓ) (p : Fin 16) (f : (cc0_scratch0 : Ref sig .tc).ty.Contents (Elt F))
    (h : ∀ i, i ∈ wset p → f i = wcont m c p i) : M3.view.readAt (Elt F) (rectW p).toLoadRect f = wv m c p := by
  funext j
  refine (read_rect cc0_scratch0 (rectW p) f j).trans ?_
  rw [h _ (by rw [← map_rectW]; exact Finset.mem_map.mpr ⟨j, Finset.mem_univ _, rfl⟩)]
  exact congrArg (wv m c p) (pkW_emb p j)

end Cert.KernelIdeal.Kern

end
-- ==== Proof.Kern.Steps.lean ====
/- What every device may use again and again, and the rules of the single transfers and waits. -/
module

public import proofs.«01_k».proof.Proof.Kern.Access

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, numbered -/

/-- A device's barrier cell, and its sixty-seven transfer cells. -/
def ksem (i : Fin 68) : SemLoc sig := if i.val = 0 then .reg barS.sem else .dma (dm (1 + i.val) (by omega))
def kcell (ci : Dev nD × Fin 68) : GSem nD τ sig := ((ci.1 : Thread nD τ), ksem ci.2)

def iw (p : Fin 16) : Fin 68 := ⟨1 + p.val % 3, by omega⟩
def ids (k : Fin 16) : Fin 68 := ⟨4 + k.val, by omega⟩
def idr (k : Fin 16) : Fin 68 := ⟨20 + k.val, by omega⟩
def ias (k : Fin 16) : Fin 68 := ⟨36 + k.val, by omega⟩
def iar (k : Fin 16) : Fin 68 := ⟨52 + k.val, by omega⟩

theorem dm_congr {i j : ℕ} {hi : i < 69} {hj : j < 69} (h : i = j) : dm i hi = dm j hj := by subst h; rfl

theorem kcell_bar (c : Dev nD) : kcell (c, 0) = barCell c := rfl
theorem ksem_pos (i : Fin 68) (h : i.val ≠ 0) : ksem i = .dma (dm (1 + i.val) (by omega)) := if_neg h
theorem kcell_w (c : Dev nD) (p : Fin 16) : kcell (c, iw p) = wCell c p := by
  unfold kcell wCell; rw [wslot_sem, ksem_pos _ (show 1 + p.val % 3 ≠ 0 by omega), dm_congr (show 1 + (iw p).val = 2 + p.val % 3 by unfold iw; dsimp only; omega)]
theorem kcell_dsnd (c : Dev nD) (k : Fin 16) : kcell (c, ids k) = dsnd c k := by
  unfold kcell dsnd; rw [dsnd_sem, ksem_pos _ (show 4 + k.val ≠ 0 by omega), dm_congr (show 1 + (ids k).val = 5 + k.val by unfold ids; dsimp only; omega)]
theorem kcell_drcv (c : Dev nD) (k : Fin 16) : kcell (c, idr k) = drcv c k := by
  unfold kcell drcv; rw [drcv_sem, ksem_pos _ (show 20 + k.val ≠ 0 by omega), dm_congr (show 1 + (idr k).val = 21 + k.val by unfold idr; dsimp only; omega)]
theorem kcell_asnd (c : Dev nD) (k : Fin 16) : kcell (c, ias k) = asnd c k := by
  unfold kcell asnd; rw [asnd_sem, ksem_pos _ (show 36 + k.val ≠ 0 by omega), dm_congr (show 1 + (ias k).val = 37 + k.val by unfold ias; dsimp only; omega)]
theorem kcell_arcv (c : Dev nD) (k : Fin 16) : kcell (c, iar k) = arcv c k := by
  unfold kcell arcv; rw [arcv_sem, ksem_pos _ (show 52 + k.val ≠ 0 by omega), dm_congr (show 1 + (iar k).val = 53 + k.val by unfold iar; dsimp only; omega)]

/-! ## What is known throughout -/

variable (K : Dev nD × Fin 68 → ℕ)

/-- Every cell's invariant, that every cell has reached its first round, and the levels. -/
def records : sProp 𝕄 :=
  iprop((bigSep Finset.univ fun ci => iprop(cellInv ER (Rd m) (K ci) (kcell ci) ∗ reached ER (kcell ci) 0)) ∗ levAts L lv)

instance records_persistent : BI.Persistent (records m K) := by unfold records; infer_instance

theorem rec_at (ci : Dev nD × Fin 68) : records m K ⊢ iprop(cellInv ER (Rd m) (K ci) (kcell ci) ∗ reached ER (kcell ci) 0) := by
  have h : (bigSep Finset.univ fun ci => iprop(cellInv ER (Rd m) (K ci) (kcell ci) ∗ reached ER (kcell ci) 0) : sProp 𝕄)
    ⊢ iprop(cellInv ER (Rd m) (K ci) (kcell ci) ∗ reached ER (kcell ci) 0) := bigSep_elim (Finset.mem_univ ci)
  unfold records
  iintro ⟨H, -⟩
  iapply h $$ H

theorem rec_inv (ci : Dev nD × Fin 68) (g : GSem nD τ sig) (h : kcell ci = g) : records m K ⊢ cellInv ER (Rd m) (K ci) g := by
  subst h
  iintro H
  ihave H' := (rec_at m K ci) $$ H
  icases H' with ⟨H, -⟩
  iexact H
theorem rec_reached (ci : Dev nD × Fin 68) (g : GSem nD τ sig) (h : kcell ci = g) : records m K ⊢ reached ER g 0 := by
  subst h
  iintro H
  ihave H' := (rec_at m K ci) $$ H
  icases H' with ⟨-, H⟩
  iexact H
theorem rec_lev : records m K ⊢ levAts L lv := by
  unfold records
  iintro ⟨-, H⟩; iexact H
theorem rec_mayWait (c : Dev nD) (sm : SemLoc sig) (O : CellTallies nD τ sig Unit)
    (h : ∀ g u, 0 < O g u → g.1.2 = .tc ∧ lv ((c : Thread nD τ), sm) () < lv g u) : records m K ⊢ MayWait (c : Thread nD τ) sm () O :=
  (rec_lev m K).trans (mayWait_of c sm O h)

/-- What a device owes, at whatever waits it has made. -/
def Ow (c : Dev nD) (O : CellTallies nD τ sig Unit) : sProp 𝕄 := iprop(∃ X : Waits sig Unit, owes (c : Thread nD τ) O X)

/-! ## Waits -/

/-- A wait for a copy's whole amount, on a cell whose open round has the one duty. -/
theorem wait_one (c : Dev nD) (sm : DmaSem sig) (ci : Dev nD × Fin 68) (hci : kcell ci = ((c : Thread nD τ), .dma sm)) (r n : ℕ)
    {sp sp' : Space} {s s' : Shape} {e e' : EltTy} (src : Memref sig .tc sp s e) (dst : Memref sig .tc sp' s' e')
    (hs : src.view.WordExact) (hd' : dst.view.WordExact)
    (hd : (Rd m).duties ((c : Thread nD τ), .dma sm) r = {0}) (ha : (Rd m).amount ((c : Thread nD τ), .dma sm) r 0 = n) (hn : dst.view.dmaCredit = n)
    (O : CellTallies nD τ sig Unit) (h : ∀ g u, 0 < O g u → g.1.2 = .tc ∧ lv ((c : Thread nD τ), .dma sm) () < lv g u)
    (Kt : P F) (Q : PUnit → sProp 𝕄) :
    iprop(records m K ∗ cred (tallyAt ((c : Thread nD τ), .dma sm) () n) ∗ Ow c O ∗ atPos ER ((c : Thread nD τ), .dma sm) r ∅ 0
      ∗ (iprop(Ow c O ∗ atPos ER ((c : Thread nD τ), .dma sm) (r + 1) ∅ 0 ∗ reached ER ((c : Thread nD τ), .dma sm) (r + 1) ∗ (Rd m).payload ((c : Thread nD τ), .dma sm) r 0) -∗ W c Kt Q))
      ⊢ W c (.op (.waitDma2 sm src dst hs hd') fun _ => Kt) Q := by
  subst hn
  unfold Ow
  iintro ⟨#HR, Hc, ⟨%X, HO⟩, Hat, Hk⟩
  iapply (Rounds.wp_wait_rest_token 𝒱₀ ER (Rd m) (c : Thread nD τ) none (κ := K ci)
      (wpE_waitDma2_eq 𝒱₀ (c : Thread nD τ) none Set.univ) (Set.mem_univ _) () (O := O) (W := X) (R := r) (m := 0) (T := ∅)
      (by rw [Nat.zero_add, expect_one m _ _ _ hd ha])) $$ [Hc HO Hat]
  · isplitr; · iapply (rec_inv m K ci _ hci); iexact HR
    isplitl [Hc]; · iexact Hc
    isplitl [HO]; · iexact HO
    isplitr; · iapply (rec_mayWait m K c _ O h); iexact HR
    iexact Hat
  iintro ⟨HO, Hat, Hr, Hpay⟩
  ihave Hp := (Entails.of_eq (rest_one m _ _ hd)) $$ Hpay
  iapply Hk
  isplitl [HO]; · iexists _; iexact HO
  isplitl [Hat]; · iexact Hat
  isplitl [Hr]; · iexact Hr
  iexact Hp

theorem no_owe {c : Dev nD} {sm : SemLoc sig} : ∀ (g : GSem nD τ sig) (u : Unit), 0 < (0 : CellTallies nD τ sig Unit) g u → g.1.2 = .tc ∧ lv ((c : Thread nD τ), sm) () < lv g u :=
  fun g u h => absurd h (Nat.lt_irrefl 0)

omit [FloatOps F] in
/-- Contents equal on the elements held may be exchanged. -/
theorem pts_cg {ℓ : Loc nD τ sig} {I : Finset (Idx ℓ)} {q : PosShare TreeShare} {f g : Buf (Elt F) ℓ} (h : ∀ i ∈ I, f i = g i) :
    (ℓ ↦[I]{q} f : sProp 𝕄) ⊢ ℓ ↦[I]{q} g := Entails.of_eq (pointsTo_congr h)

/-! ## Weight panels -/

theorem wcell_eq (c : Dev nD) (p p' : Fin 16) (h : p.val % 3 = p'.val % 3) : wCell c p = wCell c p' := by
  rw [← kcell_w, ← kcell_w]; unfold iw; rw [show (⟨1 + p.val % 3, by omega⟩ : Fin 68) = ⟨1 + p'.val % 3, by omega⟩ from Fin.ext (by dsimp only; omega)]

theorem wP_eq (c : Dev nD) (p p' : Fin 16) (h : p.val % 3 = p'.val % 3) (f : Buf (Elt F) ((c : Thread nD τ).loc cc0_scratch0)) : wP c p f = wP c p' f := by
  unfold wP; rw [show wset p = wset p' from by unfold wset; rw [h]]

/-- What a panel's copy leaves in its slot. -/
theorem wcopy (c : Dev nD) (p : Fin 16) (f : Buf (Elt F) ((c : Thread nD τ).loc cc0_scratch0)) (i : S3x256x8192.Idx) (hi : i ∈ wset p) :
    ((wbuf M3 p).view.write (Elt F) f ((whbm M1 p).view.read (Elt F) (m ((c : Thread nD τ).loc main_arg1))) Finset.univ : Buf (Elt F) ((c : Thread nD τ).loc cc0_scratch0)) i
      = wcont m c p i := by
  rw [← wbuf_set p] at hi
  obtain ⟨x, -, rfl⟩ := Finset.mem_map.mp hi
  refine (View.write_emb_of_mem (v := (wbuf M3 p).view) f _ (Finset.mem_univ x)).trans ?_
  show _ = wv m c p (pkW ((rectW p).emb (Shape.reshapeEquiv squeezes_S1x256x8192_S256x8192.numel_eq x)))
  rw [pkW_emb]
  show _ = (whbm M1 p).view.read (Elt F) (m ((c : Thread nD τ).loc main_arg1)) ((Shape.reshapeEquiv squeezes_S1x256x8192_S256x8192.numel_eq).symm _)
  rw [Equiv.symm_apply_apply]
  rfl

theorem wp_wstart (c : Dev nD) (p : Fin 16) (f : Buf (Elt F) ((c : Thread nD τ).loc cc0_scratch0)) (Kt : P F) (Q : PUnit → sProp 𝕄) :
    iprop(records m K ∗ hP m c p ∗ wP c p f ∗ dutyTok ER (wCell c p) (p.val / 3) 0 ∗ reached ER (wCell c p) (p.val / 3)
      ∗ (cred (tallyAt (wCell c p) () Nw) -∗ W c Kt Q))
      ⊢ W c (wstartK M1 M3 cc0_scratch5 p Kt) Q := by
  unfold wstartK hP wP
  rw [← whbm_set p, ← wbuf_set p]
  iintro ⟨#HR, Hh, Hw, Htok, Hr, Hk⟩
  iapply (Rounds.wp_copy_pointsTo 𝒱₀ ER (Rd m) (c : Thread nD τ) none (κ := K (c, iw p)) (src := whbm M1 p) (dst := wbuf M3 p)
    (sem := .dma (wslot cc0_scratch5 p).sem) (q := fullShare) (fs := m ((c : Thread nD τ).loc main_arg1)) (fd := f) (r := p.val / 3) (d := 0)
    (by rw [duties_w]; exact Finset.mem_singleton_self _) () Nw (credit_w p) (amount_w m c p _ 0)
    (by
      rw [payload_w]; unfold wPay wP hP
      rw [← whbm_set p]
      rw [wbuf_set p]
      iintro ⟨H1, H2⟩
      isplitl [H1]; · iapply (pts_cg (ℓ := (c : Thread nD τ).loc cc0_scratch0) (g := wcont m c p) (fun i hi => wcopy m c p f i hi)) $$ H1
      iexact H2)) $$ [Hh Hw Htok Hr]
  · isplitr; · iapply (rec_inv m K (c, iw p) _ (kcell_w c p)); iexact HR
    isplitl [Hh]; · iexact Hh
    isplitl [Hw]; · iexact Hw
    isplitl [Htok]; · iexact Htok
    iexact Hr
  iexact Hk

theorem wp_wwait (c : Dev nD) (p : Fin 16) (Kt : P F) (Q : PUnit → sProp 𝕄) (O : CellTallies nD τ sig Unit)
    (hO : ∀ g u, 0 < O g u → g.1.2 = .tc ∧ 1 ≤ lv g u) :
    iprop(records m K ∗ cred (tallyAt (wCell c p) () Nw) ∗ Ow c O ∗ atPos ER (wCell c p) (p.val / 3) ∅ 0
      ∗ (iprop(Ow c O ∗ atPos ER (wCell c p) (p.val / 3 + 1) ∅ 0 ∗ reached ER (wCell c p) (p.val / 3 + 1) ∗ wPay m c p) -∗ W c Kt Q))
      ⊢ W c (wwaitK M1 M3 cc0_scratch5 p Kt) Q := by
  have h := wait_one m K c (wslot cc0_scratch5 p).sem (c, iw p) (kcell_w c p) (p.val / 3) Nw (whbm M1 p) (wbuf M3 p)
    (View.wordExact_bits rfl) ((View.wordExact_bits rfl).reshape _ _) (duties_w m c p) (amount_w m c p _ 0) (credit_w p) O
    (fun g u hg => ⟨(hO g u hg).1, by rw [lv_w]; exact (hO g u hg).2⟩) Kt Q
  rw [payload_w] at h
  exact h

end Cert.KernelIdeal.Kern

end
-- ==== Proof.Kern.Panels.lean ====
/- The weight panels: each awaited, multiplied into the sixteen tiles, and the panel three ahead started. -/
module

public import proofs.«01_k».proof.Proof.Kern.Steps

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One panel -/

/-- The tiles, the first `t` of them after panel `n`, the others before it. -/
def Mid (c : Dev nD) (n t : ℕ) (f : (cc0_scratch1 : Ref sig .tc).ty.Contents (Elt F)) : Prop :=
  ∀ i : S16x256x512.Idx, ((sl i).val < t → (f i : F .f32) = acc m c (n + 1) (sl i) (pk i)) ∧ (t ≤ (sl i).val → 0 < n → (f i : F .f32) = acc m c n (sl i) (pk i))
def midP (c : Dev nD) (n t : ℕ) : sProp 𝕄 :=
  iprop(∃ f : Buf (Elt F) ((c : Thread nD τ).loc cc0_scratch1), ⌜Mid m c n t f⌝ ∗ (((c : Thread nD τ).loc cc0_scratch1) ↦{fullShare} f))

theorem mid_next (c : Dev nD) (n : ℕ) : midP m c n 16 ⊢ midP m c (n + 1) 0 := by
  unfold midP
  iintro ⟨%f, %h, H⟩
  iexists f
  isplitr
  · ipureintro
    exact fun i => ⟨fun hi => absurd hi (Nat.not_lt_zero _), fun _ _ => (h i).1 (sl i).isLt⟩
  iexact H

theorem mid_step (c : Dev nD) (n : ℕ) (t : Fin 16) (f : (cc0_scratch1 : Ref sig .tc).ty.Contents (Elt F)) (h : Mid m c n t.val f) :
    Mid m c n (t.val + 1) ((M4.access (rectT t)).write (Elt F) f (acc m c (n + 1) t) Finset.univ) := by
  intro i
  by_cases hi : sl i = t
  · refine ⟨fun _ => ?_, fun h' => absurd h' (by rw [hi]; omega)⟩
    rw [tile_in f t _ i hi, hi]
  · have hv : (sl i).val ≠ t.val := fun h' => hi (Fin.ext h')
    refine ⟨fun h' => ?_, fun h' hn => ?_⟩
    · rw [tile_out f t _ i hi]; exact (h i).1 (by omega)
    · rw [tile_out f t _ i hi]; exact (h i).2 (by omega) hn

theorem acc_zero (c : Dev nD) (q t : Fin 4) : acc m c 1 (tileOf q t) = tileSet (xv m c) 0 (wv m c 0) q t := by
  show (if 0 = 0 then tileSet (xv m c) (pm 0) (wv m c (pm 0)) (tq (tileOf q t)) (tt (tileOf q t)) else _) = _
  rw [if_pos rfl, tq_tileOf, tt_tileOf, show pm 0 = 0 from rfl]
theorem acc_pos (c : Dev nD) (p : Fin 16) (hp : 1 ≤ p.val) (q t : Fin 4) :
    acc m c (p.val + 1) (tileOf q t) = tileAdd (xv m c) p (wv m c p) q t (acc m c p.val (tileOf q t)) := by
  show (if p.val = 0 then _ else tileAdd (xv m c) (pm p.val) (wv m c (pm p.val)) (tq (tileOf q t)) (tt (tileOf q t)) (acc m c p.val (tileOf q t))) = _
  rw [if_neg (by omega), tq_tileOf, tt_tileOf, pm_val]

theorem tile0 (c : Dev nD) (q t : Fin 4) (K' : P F) (Q : PUnit → sProp 𝕄) :
    iprop(midP m c 0 (tileOf q t).val ∗ (midP m c 0 ((tileOf q t).val + 1) -∗ W c K' Q))
      ⊢ W c (loadR M4 (tileOf q t) fun _ => storeR M4 (tileOf q t) (tileSet (xv m c) 0 (wv m c 0) q t) K') Q := by
  rw [← acc_zero]
  unfold midP loadR storeR
  iintro ⟨⟨%f, %h, H⟩, Hk⟩
  iapply (wp_load 𝒱₀ (c : Thread nD τ) none Set.univ (m := M4) (Finset.subset_univ _)) $$ H; iintro H
  iapply (wp_store 𝒱₀ (c : Thread nD τ) none Set.univ (m := M4) (r := rectT (tileOf q t)) (Mk := Finset.univ) (Finset.subset_univ _)) $$ H; iintro H
  iapply Hk
  iexists _
  isplitr; · ipureintro; exact mid_step m c 0 (tileOf q t) f h
  iexact H

theorem tileN (c : Dev nD) (p : Fin 16) (hp : 1 ≤ p.val) (q t : Fin 4) (K' : P F) (Q : PUnit → sProp 𝕄) :
    iprop(midP m c p.val (tileOf q t).val ∗ (midP m c p.val ((tileOf q t).val + 1) -∗ W c K' Q))
      ⊢ W c (loadR M4 (tileOf q t) fun r => loadR M4 (tileOf q t) fun _ => storeR M4 (tileOf q t) (tileAdd (xv m c) p (wv m c p) q t r) K') Q := by
  unfold midP loadR storeR
  iintro ⟨⟨%f, %h, H⟩, Hk⟩
  iapply (wp_load 𝒱₀ (c : Thread nD τ) none Set.univ (m := M4) (Finset.subset_univ _)) $$ H; iintro H
  rw [tile_read f (acc m c p.val (tileOf q t)) (tileOf q t) (fun i hi => by rw [(h i).2 (by rw [hi]) hp, hi]), ← acc_pos m c p hp]
  iapply (wp_load 𝒱₀ (c : Thread nD τ) none Set.univ (m := M4) (Finset.subset_univ _)) $$ H; iintro H
  iapply (wp_store 𝒱₀ (c : Thread nD τ) none Set.univ (m := M4) (r := rectT (tileOf q t)) (Mk := Finset.univ) (Finset.subset_univ _)) $$ H; iintro H
  iapply Hk
  iexists _
  isplitr; · ipureintro; exact mid_step m c p.val (tileOf q t) f h
  iexact H

theorem rdW_sub (p : Fin 16) : M3.view.setOn (rectW p).toLoadRect.set ⊆ wset p := by
  intro i hi
  rw [← rectW_set p]
  rwa [show M3.view.setOn (rectW p).toLoadRect.set = (rectW p).set from setOn_whole cc0_scratch0 (rectW p)] at hi

/-- The first panel's products. -/
theorem wp_panel0 (c : Dev nD) (K' : P F) (Q : PUnit → sProp 𝕄) :
    iprop(midP m c 0 0 ∗ wP c 0 (wcont m c 0) ∗ (iprop(midP m c 1 0 ∗ wP c 0 (wcont m c 0)) -∗ W c K' Q))
      ⊢ W c (panel0K M3 M4 (xv m c) 0 K') Q := by
  unfold panel0K
  iintro ⟨H, Hw, Hk⟩
  have h4 : 0 + 4 ≤ 4 := by decide
  iapply (wp_loop4 c (fun q => iprop(midP m c 0 (q * 4) ∗ wP c 0 (wcont m c 0))) _ K' Q (fun q K'' => by
    unfold loadW wP
    iintro ⟨⟨H, Hw⟩, Hk⟩
    iapply (wp_load 𝒱₀ (c : Thread nD τ) none Set.univ (m := M3) (rdW_sub 0)) $$ Hw; iintro Hw
    rw [w_read c m 0 _ (fun i hi => rfl)]
    have h4 : 0 + 4 ≤ 4 := by decide
    iapply (wp_loop4 c (fun t => midP m c 0 (q.val * 4 + t)) _ K'' Q (fun t K3 => tile0 m c q t K3 Q) 4 0 h4)
    isplitl [H]; · iexact H
    iintro H
    iapply Hk
    rw [show q.val * 4 + (0 + 4) = (q.val + 1) * 4 by omega]
    isplitl [H]; · iexact H
    iexact Hw) 4 0 h4)
  isplitl [H Hw]
  · rw [Nat.zero_mul]; isplitl [H] <;> iassumption
  iintro ⟨H, Hw⟩
  iapply Hk
  isplitl [H]; · iapply (mid_next m c 0); iexact H
  iexact Hw

/-- A later panel's products. -/
theorem wp_panel (c : Dev nD) (p : Fin 16) (hp : 1 ≤ p.val) (K' : P F) (Q : PUnit → sProp 𝕄) :
    iprop(midP m c p.val 0 ∗ wP c p (wcont m c p) ∗ (iprop(midP m c (p.val + 1) 0 ∗ wP c p (wcont m c p)) -∗ W c K' Q))
      ⊢ W c (panelK M3 M4 (xv m c) p K') Q := by
  unfold panelK
  iintro ⟨H, Hw, Hk⟩
  have h4 : 0 + 4 ≤ 4 := by decide
  iapply (wp_loop4 c (fun q => iprop(midP m c p.val (q * 4) ∗ wP c p (wcont m c p))) _ K' Q (fun q K'' => by
    unfold loadW wP
    iintro ⟨⟨H, Hw⟩, Hk⟩
    iapply (wp_load 𝒱₀ (c : Thread nD τ) none Set.univ (m := M3) (rdW_sub p)) $$ Hw; iintro Hw
    rw [w_read c m p _ (fun i hi => rfl)]
    have h4 : 0 + 4 ≤ 4 := by decide
    iapply (wp_loop4 c (fun t => midP m c p.val (q.val * 4 + t)) _ K'' Q (fun t K3 => tileN m c p hp q t K3 Q) 4 0 h4)
    isplitl [H]; · iexact H
    iintro H
    iapply Hk
    rw [show q.val * 4 + (0 + 4) = (q.val + 1) * 4 by omega]
    isplitl [H]; · iexact H
    iexact Hw) 4 0 h4)
  isplitl [H Hw]
  · rw [Nat.zero_mul]; isplitl [H] <;> iassumption
  iintro ⟨H, Hw⟩
  iapply Hk
  isplitl [H]; · iapply (mid_next m c p.val); iexact H
  iexact Hw

/-! ## All the panels -/

variable (K : Dev nD × Fin 68 → ℕ)

/-- A panel's copy under way, as its device sees it. -/
def fly (c : Dev nD) (p : Fin 16) : sProp 𝕄 :=
  iprop(cred (tallyAt (wCell c p) () Nw) ∗ atPos ER (wCell c p) (p.val / 3) ∅ 0)
/-- What the start of a panel's copy takes. -/
def wNeed (c : Dev nD) (p : Fin 16) : sProp 𝕄 := iprop(dutyTok ER (wCell c p) (p.val / 3) 0 ∗ hP m c p)
/-- What the last panel of each slot leaves. -/
def wLeft (c : Dev nD) (p : Fin 16) : sProp 𝕄 := iprop(hP m c p ∗ wP c p (wcont m c p) ∗ atPos ER (wCell c p) (p.val / 3 + 1) ∅ 0)

def S₁ (c : Dev nD) (O : CellTallies nD τ sig Unit) (n : ℕ) : sProp 𝕄 :=
  iprop(midP m c n 0 ∗ Ow c O ∗ fly c (pm n) ∗ fly c (pm (n + 1)) ∗ fly c (pm (n + 2)))

/-- The panel three ahead is the same slot's next. -/
def nx (p : Fin 16) : Fin 16 := ⟨(p.val + 3) % 16, Nat.mod_lt _ (by decide)⟩

/-- After a panel's wait and products, the start of the panel three ahead. -/
theorem restart (c : Dev nD) (p : Fin 16) (hp : p.val < 13) (K' : P F) (Q : PUnit → sProp 𝕄) :
    iprop(records m K ∗ wNeed m c (nx p) ∗ wP c p (wcont m c p) ∗ atPos ER (wCell c p) (p.val / 3 + 1) ∅ 0 ∗ reached ER (wCell c p) (p.val / 3 + 1)
      ∗ (fly c (nx p) -∗ W c K' Q))
      ⊢ W c (wstartK M1 M3 cc0_scratch5 (nx p) K') Q := by
  have hn : (nx p).val = p.val + 3 := Nat.mod_eq_of_lt (by omega)
  have h3 : p.val % 3 = (nx p).val % 3 := by rw [hn]; omega
  have hd : p.val / 3 + 1 = (nx p).val / 3 := by rw [hn]; omega
  unfold wNeed fly
  rw [wP_eq c p (nx p) h3, wcell_eq c p (nx p) h3, hd]
  iintro ⟨#HR, ⟨Htok, Hh⟩, Hw, Hat, Hr, Hk⟩
  iapply (wp_wstart m K c (nx p) _ K' Q)
  isplitr; · iexact HR
  isplitl [Hh]; · iexact Hh
  isplitl [Hw]; · iexact Hw
  isplitl [Htok]; · iexact Htok
  isplitl [Hr]; · iexact Hr
  iintro Hc
  iapply Hk
  isplitl [Hc] <;> iassumption

theorem pm_next (p : Fin 16) (hp : p.val < 13) : pm (p.val + 1 + 2) = nx p := rfl

theorem wp_mid (c : Dev nD) (O : CellTallies nD τ sig Unit) (hO : ∀ g u, 0 < O g u → g.1.2 = .tc ∧ 1 ≤ lv g u)
    (p : Fin 16) (hp : 1 ≤ p.val) (hp' : p.val < 13) (K' : P F) (Q : PUnit → sProp 𝕄) :
    iprop(records m K ∗ S₁ m c O p.val ∗ wNeed m c (nx p) ∗ (iprop(S₁ m c O (p.val + 1) ∗ hP m c p) -∗ W c K' Q))
      ⊢ W c (wwaitK M1 M3 cc0_scratch5 p <| panelK M3 M4 (xv m c) p <| wstartK M1 M3 cc0_scratch5 (nx p) K') Q := by
  unfold S₁
  rw [pm_val, pm_next p hp']
  iintro ⟨#HR, ⟨Hm, HO, Hf, Hf1, Hf2⟩, Hn, Hk⟩
  unfold fly
  icases Hf with ⟨Hc, Hat⟩
  iapply (wp_wwait m K c p _ Q O hO)
  isplitr; · iexact HR
  isplitl [Hc]; · iexact Hc
  isplitl [HO]; · iexact HO
  isplitl [Hat]; · iexact Hat
  unfold wPay
  iintro ⟨HO, Hat, Hr, Hw, Hh⟩
  iapply (wp_panel m c p hp _ Q)
  isplitl [Hm]; · iexact Hm
  isplitl [Hw]; · iexact Hw
  iintro ⟨Hm, Hw⟩
  iapply (restart m K c p hp' _ Q)
  isplitr; · iexact HR
  isplitl [Hn]; · iexact Hn
  isplitl [Hw]; · iexact Hw
  isplitl [Hat]; · iexact Hat
  isplitl [Hr]; · iexact Hr
  unfold fly
  iintro Hf3
  iapply Hk
  isplitr [Hh]
  · isplitl [Hm]; · iexact Hm
    isplitl [HO]; · iexact HO
    isplitl [Hf1]; · iexact Hf1
    isplitl [Hf2]; · iexact Hf2
    iexact Hf3
  iexact Hh

theorem wp_last (c : Dev nD) (O : CellTallies nD τ sig Unit) (hO : ∀ g u, 0 < O g u → g.1.2 = .tc ∧ 1 ≤ lv g u)
    (p : Fin 16) (hp : 13 ≤ p.val) (K' : P F) (Q : PUnit → sProp 𝕄) :
    iprop(records m K ∗ iprop(midP m c p.val 0 ∗ Ow c O) ∗ fly c p ∗ (iprop(iprop(midP m c (p.val + 1) 0 ∗ Ow c O) ∗ wLeft m c p) -∗ W c K' Q))
      ⊢ W c (wwaitK M1 M3 cc0_scratch5 p <| panelK M3 M4 (xv m c) p K') Q := by
  iintro ⟨#HR, ⟨Hm, HO⟩, Hf, Hk⟩
  unfold fly
  icases Hf with ⟨Hc, Hat⟩
  iapply (wp_wwait m K c p _ Q O hO)
  isplitr; · iexact HR
  isplitl [Hc]; · iexact Hc
  isplitl [HO]; · iexact HO
  isplitl [Hat]; · iexact Hat
  unfold wPay
  iintro ⟨HO, Hat, -, Hw, Hh⟩
  have hp1 : 1 ≤ p.val := by omega
  iapply (wp_panel m c p hp1 _ Q)
  isplitl [Hm]; · iexact Hm
  isplitl [Hw]; · iexact Hw
  iintro ⟨Hm, Hw⟩
  iapply Hk
  isplitl [Hm HO]
  · isplitl [Hm] <;> iassumption
  unfold wLeft
  isplitl [Hh]; · iexact Hh
  isplitl [Hw]; · iexact Hw
  iexact Hat

theorem wp_panels (c : Dev nD) (O : CellTallies nD τ sig Unit) (hO : ∀ g u, 0 < O g u → g.1.2 = .tc ∧ 1 ≤ lv g u) (K' : P F) (Q : PUnit → sProp 𝕄) :
    iprop(records m K ∗ S₁ m c O 0 ∗ wNeed m c 3 ∗ along (fun p => wNeed m c (nx p)) 12 1 (by decide)
      ∗ (iprop(midP m c 16 0 ∗ Ow c O ∗ hP m c 0 ∗ along (hP m c) 12 1 (by decide) ∗ along (wLeft m c) 3 13 (by decide)) -∗ W c K' Q))
      ⊢ W c (panelsK M1 M3 M4 cc0_scratch5 (xv m c) K') Q := by
  unfold panelsK
  iintro ⟨#HR, HS, Hn3, Hn, Hk⟩
  unfold S₁ fly
  icases HS with ⟨Hm, HO, ⟨Hc, Hat⟩, Hf1, Hf2⟩
  iapply (wp_wwait m K c 0 _ Q O hO)
  isplitr; · iexact HR
  isplitl [Hc]; · iexact Hc
  isplitl [HO]; · iexact HO
  isplitl [Hat]; · iexact Hat
  unfold wPay
  iintro ⟨HO, Hat, Hr, Hw, Hh⟩
  iapply (wp_panel0 m c _ Q)
  isplitl [Hm]; · iexact Hm
  isplitl [Hw]; · iexact Hw
  iintro ⟨Hm, Hw⟩
  have h013 : (0 : Fin 16).val < 13 := by decide
  iapply (restart m K c 0 h013 _ Q)
  isplitr; · iexact HR
  isplitl [Hn3]; · iexact Hn3
  isplitl [Hw]; · iexact Hw
  isplitl [Hat]; · iexact Hat
  isplitl [Hr]; · iexact Hr
  iintro Hf3
  have h1 : 1 + 12 ≤ 16 := by decide
  have h2 : 13 + 3 ≤ 16 := by decide
  have h3 : 1 + 12 ≤ 13 := by decide
  have hz : 1 ≤ 1 := by decide
  have hz' : 13 ≤ 13 := by decide
  iapply (wp_loop c (R := records m K) 1 13 (S₁ m c O) (fun p => wNeed m c (nx p)) (hP m c) _ _ Q
    (fun k K'' hk hk' => wp_mid m K c O hO k hk hk' K'' Q) 12 1 h1 hz h3)
  isplitr; · iexact HR
  isplitl [Hm HO Hf1 Hf2 Hf3]
  · unfold S₁ fly
    isplitl [Hm]; · iexact Hm
    isplitl [HO]; · iexact HO
    isplitl [Hf1]; · iexact Hf1
    isplitl [Hf2]; · iexact Hf2
    iexact Hf3
  isplitl [Hn]; · iexact Hn
  iintro ⟨HS, Hhs⟩
  unfold S₁
  icases HS with ⟨Hm, HO, Hf13, Hf14, Hf15⟩
  iapply (wp_loop c (R := records m K) 13 16 (fun n => iprop(midP m c n 0 ∗ Ow c O)) (fly c) (wLeft m c) _ K' Q
    (fun k K'' hk _ => wp_last m K c O hO k hk K'' Q) 3 13 h2 hz' h2)
  isplitr; · iexact HR
  isplitl [Hm HO]
  · isplitl [Hm] <;> iassumption
  isplitl [Hf13 Hf14 Hf15]
  · simp only [along_succ]
    isplitl [Hf13]; · iexact Hf13
    isplitl [Hf14]; · iexact Hf14
    isplitl [Hf15]; · iexact Hf15
    unfold along; iempintro
  iintro ⟨⟨Hm, HO⟩, HL⟩
  iapply Hk
  isplitl [Hm]; · iexact Hm
  isplitl [HO]; · iexact HO
  isplitl [Hh]; · iexact Hh
  isplitl [Hhs]; · iexact Hhs
  iexact HL

end Cert.KernelIdeal.Kern

end
-- ==== Proof.Kern.Exchange.lean ====
/- The barrier, the local maximum and the exchange of the maxima. -/
module

public import proofs.«01_k».proof.Proof.Kern.Panels

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is still owed from an iteration on -/

def oweFrom (f : Fin 16 → CellTallies nD τ sig Unit) (n : ℕ) : CellTallies nD τ sig Unit :=
  if h : n ≤ 16 then oweSum f (16 - n) n (by omega) else 0

theorem oweSum_at (f : Fin 16 → CellTallies nD τ sig Unit) {a b lo : ℕ} (e : a = b) (ha : lo + a ≤ 16) (hb : lo + b ≤ 16) :
    oweSum f a lo ha = oweSum f b lo hb := by subst e; rfl

theorem oweFrom_peel (f : Fin 16 → CellTallies nD τ sig Unit) (k : Fin 16) : oweFrom f k.val = oweFrom f (k.val + 1) + f k := by
  unfold oweFrom
  rw [dif_pos (by omega), dif_pos (by omega)]
  rw [oweSum_at f (show 16 - k.val = (16 - (k.val + 1)) + 1 by omega) (by omega) (by omega)]
  rfl
theorem oweFrom_end (f : Fin 16 → CellTallies nD τ sig Unit) : oweFrom f 16 = 0 := rfl
theorem oweFrom_one (f : Fin 16 → CellTallies nD τ sig Unit) : oweFrom f 1 = oweSum f 15 1 (by decide) := rfl

variable (K : Dev nD × Fin 68 → ℕ)

/-! ## The barrier -/

theorem neg_ne : ∀ k : Fin 16, 1 ≤ k.val → -k ≠ 0 := by decide

/-- What a signal takes: its duty's token, and the slots it hands over. -/
def sigNeed (c : Dev nD) (k : Fin 16) : sProp 𝕄 :=
  iprop(dutyTok ER (barCell (up c k)) 0 (-k) ∗ (∃ f, stgP c (-k) f) ∗ ∃ f, amxP c (-k) fullShare f)

theorem wp_sig (c : Dev nD) (k : Fin 16) (hk : 1 ≤ k.val) (K' : P F) (Q : PUnit → sProp 𝕄) :
    iprop(records m K ∗ Ow c (O₁ c + oweFrom (oweBar c) k.val) ∗ sigNeed c k
      ∗ (iprop(Ow c (O₁ c + oweFrom (oweBar c) (k.val + 1)) ∗ emp) -∗ W c K' Q))
      ⊢ W c (sigK c k K') Q := by
  unfold sigK Ow sigNeed
  rw [sigDev_up c k hk]
  iintro ⟨#HR, ⟨%X, HO⟩, ⟨Htok, Hs, Ha⟩, Hk⟩
  iapply (Rounds.wp_signal 𝒱₀ ER (Rd m) (c : Thread nD τ) none (dst := (up c k : Thread nD τ)) (κ := K (up c k, 0))
      (d := -k) (by rw [duties_bar]; exact Finset.mem_filter.mpr ⟨Finset.mem_univ _, neg_ne k hk⟩) ((amount_bar m (up c k) (-k)).trans (by decide)) ()
      (O₀ := O₁ c + oweFrom (oweBar c) k.val) (O₁ c + oweFrom (oweBar c) (k.val + 1)) (by rw [oweFrom_peel, ← add_assoc]; rfl))
    $$ [HO Htok Hs Ha]
  · isplitr; · iapply (rec_inv m K (up c k, 0) _ (kcell_bar _)); iexact HR
    isplitl [HO]; · iexact HO
    isplitl [Htok]; · iexact Htok
    isplitl [Hs Ha]
    · rw [payload_bar]; unfold barPay; rw [up_neg]
      isplitl [Hs] <;> iassumption
    iapply (rec_reached m K (up c k, 0) _ (kcell_bar _)); iexact HR
  iintro HO
  iapply Hk
  isplitl [HO]; · iexists _; iexact HO
  iempintro

theorem wp_sigs (c : Dev nD) (K' : P F) (Q : PUnit → sProp 𝕄) :
    iprop(records m K ∗ Ow c (O₀ c) ∗ along (sigNeed c) 15 1 (by decide) ∗ (Ow c (O₁ c) -∗ W c K' Q))
      ⊢ W c (loop (sigK c) K' 15 1 (by decide)) Q := by
  unfold O₀
  rw [← oweFrom_one]
  iintro ⟨#HR, HO, Hn, Hk⟩
  have h1 : 1 + 15 ≤ 16 := by decide
  have h2 : 1 ≤ 1 := by decide
  iapply (wp_loop c (R := records m K) 1 16 (fun n => Ow c (O₁ c + oweFrom (oweBar c) n)) (sigNeed c) (fun _ => iprop(emp)) (sigK c) K' Q
    (fun k K'' hk _ => wp_sig m K c k hk K'' Q) 15 1 h1 h2 h1)
  isplitr; · iexact HR
  isplitl [HO]; · iexact HO
  isplitl [Hn]; · iexact Hn
  rw [show 1 + 15 = 16 from rfl, oweFrom_end, add_zero]
  iintro ⟨HO, -⟩
  iapply Hk; iexact HO

theorem rest_bar (c : Dev nD) : bigSep ((Rd m).duties (barCell c) 0 \ ∅) (fun d => (Rd m).payload (barCell c) 0 d) ⊢ along (barPay (F := F) c) 15 1 (by decide) := by
  rw [Finset.sdiff_empty, duties_bar, bigSep_eq_bigSepL_of_eq [1, 2, 3, 4, 5, 6, 7, 8, 9, 10, 11, 12, 13, 14, 15] (by decide) (by decide)]
  show iprop(barPay c 1 ∗ barPay c 2 ∗ barPay c 3 ∗ barPay c 4 ∗ barPay c 5 ∗ barPay c 6 ∗ barPay c 7 ∗ barPay c 8 ∗ barPay c 9 ∗ barPay c 10
      ∗ barPay c 11 ∗ barPay c 12 ∗ barPay c 13 ∗ barPay c 14 ∗ barPay c 15)
    ⊢ iprop(barPay c 1 ∗ barPay c 2 ∗ barPay c 3 ∗ barPay c 4 ∗ barPay c 5 ∗ barPay c 6 ∗ barPay c 7 ∗ barPay c 8 ∗ barPay c 9 ∗ barPay c 10
      ∗ barPay c 11 ∗ barPay c 12 ∗ barPay c 13 ∗ barPay c 14 ∗ barPay c 15 ∗ emp)
  iintro ⟨H1, H2, H3, H4, H5, H6, H7, H8, H9, H10, H11, H12, H13, H14, H15⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iempintro

theorem wp_bar (c : Dev nD) (K' : P F) (Q : PUnit → sProp 𝕄) :
    iprop(records m K ∗ Ow c (O₁ c) ∗ cred (tallyAt (barCell c) () 15) ∗ atPos ER (barCell c) 0 ∅ 0
      ∗ (iprop(Ow c (O₁ c) ∗ atPos ER (barCell c) 1 ∅ 0 ∗ along (barPay c) 15 1 (by decide)) -∗ W c K' Q))
      ⊢ W c (.op (.semWait barS.sem (15#32).toInt) fun _ => K') Q := by
  unfold Ow
  iintro ⟨#HR, ⟨%X, HO⟩, Hc, Hat, Hk⟩
  iapply (Rounds.wp_wait_rest_token 𝒱₀ ER (Rd m) (c : Thread nD τ) none (κ := K (c, 0))
      (wpE_semWait_eq 𝒱₀ (c : Thread nD τ) none Set.univ) (Set.mem_univ _) () (O := O₁ c) (W := X) (R := 0) (m := 0) (T := ∅)
      (by rw [expect_bar]; decide)) $$ [Hc HO Hat]
  · isplitr; · iapply (rec_inv m K (c, 0) _ (kcell_bar c)); iexact HR
    isplitl [Hc]; · iexact Hc
    isplitl [HO]; · iexact HO
    isplitr
    · iapply (rec_mayWait m K c (.reg barS.sem) (O₁ c) (fun g u h => ⟨(O₁_pos h).1, (show 1 < lv g u from (O₁_pos h).2)⟩)); iexact HR
    iexact Hat
  iintro ⟨HO, Hat, -, Hpay⟩
  iapply Hk
  isplitl [HO]; · iexists _; iexact HO
  isplitl [Hat]; · iexact Hat
  iapply (rest_bar m c); iexact Hpay

/-! ## The maximum -/

/-- The tiles' sums, complete. -/
def resP (c : Dev nD) : sProp 𝕄 := ((c : Thread nD τ).loc cc0_scratch1) ↦{fullShare} resC m c

theorem mid_res (c : Dev nD) : midP m c 16 0 ⊢ resP m c := by
  unfold midP resP
  iintro ⟨%f, %h, H⟩
  iapply (pts_cg (ℓ := (c : Thread nD τ).loc cc0_scratch1) (fun i _ => (h i).2 (Nat.zero_le _) (by decide))) $$ H

theorem res_read (c : Dev nD) (t : Fin 16) : M4.view.readAt (Elt F) (rectT t).toLoadRect (resC m c) = res m c t :=
  tile_read _ _ t (fun i hi => by unfold resC; rw [hi])

theorem wp_max (c : Dev nD) (K' : F .f32 → P F) (Q : PUnit → sProp 𝕄) :
    iprop(resP m c ∗ (resP m c -∗ W c (K' (locMax m c)) Q)) ⊢ W c (maxK M4 K') Q := by
  unfold maxK
  have h := wp_loopS c (resP m c) (fun t s => Scalar.maximumf s (tileMax (res m c t))) (fun t s K => loadR M4 t fun r => K (Scalar.maximumf s (tileMax r))) K' Q
    (fun t s K'' => by
      unfold resP loadR
      iintro ⟨H, Hk⟩
      iapply (wp_load 𝒱₀ (c : Thread nD τ) none Set.univ (m := M4) (Finset.subset_univ _)) $$ H; iintro H
      rw [res_read]
      iapply Hk; iexact H) 16 0 (by decide) (Scalar.ofBits .f32 0x00000000#32)
  rw [List.drop_zero, List.take_of_length_le (by rw [List.length_finRange])] at h
  exact h

theorem wp_putMax (c : Dev nD) (f : Buf (Elt F) ((c : Thread nD τ).loc cc0_scratch4)) (K' : P F) (Q : PUnit → sProp 𝕄) :
    iprop(amxP c 0 fullShare f ∗ (amxP c 0 fullShare (amaxC m c) -∗ W c K' Q)) ⊢ W c (putMax M7 (locMax m c) K') Q := by
  unfold putMax amxP
  iintro ⟨H, Hk⟩
  iapply (wp_load 𝒱₀ (c : Thread nD τ) none Set.univ (m := M7) (by
    intro i hi
    rw [← rectA_set 0]
    exact (setOn_whole cc0_scratch4 (rectA 0)) ▸ hi)) $$ H; iintro H
  iapply (wp_store 𝒱₀ (c : Thread nD τ) none Set.univ (m := M7) (r := rectA 0) (Mk := Finset.univ) (by
    intro i hi
    rw [← rectA_set 0]
    exact (setOn_access cc0_scratch4 (rectA 0)) ▸ hi)) $$ H; iintro H
  iapply Hk
  iapply (pts_cg (ℓ := (c : Thread nD τ).loc cc0_scratch4) (g := amaxC m c) (fun i hi => by
    have hi' : slA i = 0 := (mem_aset 0 i).mp hi
    refine (amx_in f (amaxSlot (locMax m c)) _ (amaxSlot_apply _) i hi').trans ?_
    unfold amaxC; rw [hi', dn_zero])) $$ H

/-! ## The maxima exchanged -/

theorem amx_share (c : Dev nD) (k : Fin 16) (q : PosShare TreeShare) (f : Buf (Elt F) ((c : Thread nD τ).loc cc0_scratch4)) :
    amxP c k q f ⊣⊢ iprop(amxP c k q.left f ∗ amxP c k q.right f) :=
  pointsTo_share (PosShare.mem_left_op_right q)

/-- The contents of slot `k` of the device `k` ahead, after the copy. -/
theorem amx_copy (c : Dev nD) (k : Fin 16) (f : Buf (Elt F) ((up c k : Thread nD τ).loc cc0_scratch4)) (i : S16x8x128.Idx) (hi : i ∈ aset k) :
    ((amx M7 k).view.write (Elt F) f ((amx M7 0).view.read (Elt F) (amaxC m c)) Finset.univ : Buf (Elt F) ((up c k : Thread nD τ).loc cc0_scratch4)) i
      = amaxC m (up c k) i := by
  have hk := (mem_aset k i).mp hi
  rw [← amx_set k] at hi
  obtain ⟨x, -, rfl⟩ := Finset.mem_map.mp hi
  refine (View.write_emb_of_mem (v := (amx M7 k).view) f _ (Finset.mem_univ x)).trans ?_
  have h0 : slA ((amx M7 0).view.emb x) = 0 := (mem_aset 0 _).mp (by rw [← amx_set 0]; exact View.emb_mem_set _ x)
  show amaxC m c ((amx M7 0).view.emb x) = amaxC m (up c k) ((amx M7 k).view.emb x)
  unfold amaxC
  rw [h0, hk, dn_zero, dn_up]

/-- What the copy of the maximum to the device `k` ahead takes. -/
def maxNeed (c : Dev nD) (k : Fin 16) : sProp 𝕄 :=
  iprop((∃ f, amxP (up c k) k fullShare f) ∗ dutyTok ER (asnd c k) 0 0 ∗ dutyTok ER (arcv (up c k) k) 0 0)

theorem wp_maxSend_to (c : Dev nD) (k : Fin 16) (hk : 1 ≤ k.val) (n : Dev nD) (hn : n = up c k) (K' : P F) (Q : PUnit → sProp 𝕄)
    {hsc : (amx M7 k).view.ref.isScScratch = false} {hsrc : (amx M7 0).view.WordExact} {hdst : (amx M7 k).view.WordExact}
    {hsem : DmaTarget.Typed .vmem (.dma (slot cc0_scratch9 k).sem) (.remote (Dev.tc n : Thread nD τ) (amx M7 k) (.dma (slot cc0_scratch8 k).sem) hsc)} :
    iprop(records m K ∗ iprop(Ow c (O₂ c + oweFrom (oweMax c) k.val) ∗ amxP c 0 (remS k.val) (amaxC m c)) ∗ maxNeed c k
      ∗ (iprop(iprop(Ow c (O₂ c + oweFrom (oweMax c) (k.val + 1)) ∗ amxP c 0 (remS (k.val + 1)) (amaxC m c)) ∗ cred (tallyAt (asnd c k) () Na)) -∗ W c K' Q))
      ⊢ W c (.op (.enqueueDma (amx M7 0) (.remote (Dev.tc n : Thread nD τ) (amx M7 k) (.dma (slot cc0_scratch8 k).sem) hsc) (.dma (slot cc0_scratch9 k).sem) hsrc hdst hsem) fun _ => K') Q := by
  subst hn
  unfold Ow maxNeed
  iintro ⟨#HR, ⟨⟨%X, HO⟩, Ha⟩, ⟨⟨%f, Hd⟩, Ht, Ht'⟩, Hk⟩
  ihave Ha' := (amx_share c 0 (remS k.val) (amaxC m c)).1 $$ Ha
  icases Ha' with ⟨Hp, Ha⟩
  iapply (Rounds.wp_send_pointsTo 𝒱₀ ER (Rd m) (c : Thread nD τ) none (c' := (up c k : Thread nD τ)) (src := amx M7 0) (dst := amx M7 k)
    (sS := .dma (slot cc0_scratch8 k).sem) (sem := .dma (slot cc0_scratch9 k).sem) (κ₁ := K (c, ias k)) (κ₂ := K (up c k, iar k))
    (q := pieceS k.val) (fs := amaxC m c) (fd := f) (r₁ := 0) (r₂ := 0) (d₁ := 0) (d₂ := 0)
    (by rw [duties_asnd m c k hk]; exact Finset.mem_singleton_self _) (by rw [duties_arcv m (up c k) k hk]; exact Finset.mem_singleton_self _)
    () () Na (credit_amx k) (amount_asnd m c k 0 0) (amount_arcv m (up c k) k 0 0)
    (O₀ := O₂ c + oweFrom (oweMax c) k.val) (O₂ c + oweFrom (oweMax c) (k.val + 1)) (by rw [oweFrom_peel, ← add_assoc]; rfl) (W := X)
    (by rw [payload_asnd, amx_set]; unfold asndPay amxP; exact BI.Entails.refl _)
    (by
      rw [payload_arcv, amx_set]; unfold arcvPay amxP
      iintro H
      iapply (pts_cg (ℓ := (up c k : Thread nD τ).loc cc0_scratch4) (g := amaxC m (up c k)) (fun i hi => amx_copy m c k f i hi)) $$ H))
    $$ [Hp Hd HO Ht Ht']
  · isplitr; · iapply (rec_inv m K (c, ias k) _ (kcell_asnd c k)); iexact HR
    isplitr; · iapply (rec_inv m K (up c k, iar k) _ (kcell_arcv (up c k) k)); iexact HR
    isplitl [Hp]; · rw [amx_set]; unfold amxP; iexact Hp
    isplitl [Hd]; · rw [amx_set]; unfold amxP; iexact Hd
    isplitl [HO]; · iexact HO
    isplitl [Ht]; · iexact Ht
    isplitr; · iapply (rec_reached m K (c, ias k) _ (kcell_asnd c k)); iexact HR
    isplitl [Ht']; · iexact Ht'
    iapply (rec_reached m K (up c k, iar k) _ (kcell_arcv (up c k) k)); iexact HR
  iintro ⟨Hc, HO⟩
  iapply Hk
  isplitl [HO Ha]
  · isplitl [HO]; · iexists _; iexact HO
    iexact Ha
  iexact Hc

theorem wp_maxSend (c : Dev nD) (k : Fin 16) (hk : 1 ≤ k.val) (K' : P F) (Q : PUnit → sProp 𝕄) :
    iprop(records m K ∗ iprop(Ow c (O₂ c + oweFrom (oweMax c) k.val) ∗ amxP c 0 (remS k.val) (amaxC m c)) ∗ maxNeed c k
      ∗ (iprop(iprop(Ow c (O₂ c + oweFrom (oweMax c) (k.val + 1)) ∗ amxP c 0 (remS (k.val + 1)) (amaxC m c)) ∗ cred (tallyAt (asnd c k) () Na)) -∗ W c K' Q))
      ⊢ W c (maxSendK M7 cc0_scratch8 cc0_scratch9 c k K') Q :=
  wp_maxSend_to m K c k hk _ (maxDev_up c k hk) K' Q

/-- What a wait for a maximum takes and gives. -/
def maxWait (c : Dev nD) (k : Fin 16) : sProp 𝕄 := iprop(cred (tallyAt (arcv c k) () Na) ∗ atPos ER (arcv c k) 0 ∅ 0)
def maxGot (c : Dev nD) (k : Fin 16) : sProp 𝕄 := iprop(amxP c k fullShare (amaxC m c) ∗ atPos ER (arcv c k) 1 ∅ 0)

theorem wp_maxRecv (c : Dev nD) (k : Fin 16) (hk : 1 ≤ k.val) (K' : P F) (Q : PUnit → sProp 𝕄) :
    iprop(records m K ∗ Ow c (O₂ c) ∗ maxWait c k ∗ (iprop(Ow c (O₂ c) ∗ maxGot m c k) -∗ W c K' Q))
      ⊢ W c (maxRecvK M7 cc0_scratch9 k K') Q := by
  have h := wait_one m K c (slot cc0_scratch9 k).sem (c, iar k) (kcell_arcv c k) 0 Na (amx M7 0) (amx M7 k)
    ((View.wordExact_bits rfl).reshape _ _) ((View.wordExact_bits rfl).reshape _ _) (duties_arcv m c k hk) (amount_arcv m c k 0 0) (credit_amx k) (O₂ c)
    (fun g u hg => ⟨(O₂_pos hg).1, by rw [lv_arcv, (O₂_pos hg).2]; decide⟩) K' Q
  rw [payload_arcv] at h
  unfold maxWait maxGot
  iintro ⟨#HR, HO, ⟨Hc, Hat⟩, Hk⟩
  iapply h
  isplitr; · iexact HR
  isplitl [Hc]; · iexact Hc
  isplitl [HO]; · iexact HO
  isplitl [Hat]; · iexact Hat
  iintro ⟨HO, Hat, -, Hp⟩
  iapply Hk
  isplitl [HO]; · iexact HO
  isplitl [Hp]; · unfold arcvPay; iexact Hp
  iexact Hat

/-- The whole buffer of the maxima, from a share of each slot. -/
theorem amx_whole (c : Dev nD) (q : PosShare TreeShare) (f : Buf (Elt F) ((c : Thread nD τ).loc cc0_scratch4)) :
    (((c : Thread nD τ).loc cc0_scratch4) ↦{q} f : sProp 𝕄) = bigSep Finset.univ fun k => amxP c k q f := by
  have h : (((c : Thread nD τ).loc cc0_scratch4) ↦[Finset.univ.biUnion aset]{q} f : sProp 𝕄) = bigSep Finset.univ fun k => (((c : Thread nD τ).loc cc0_scratch4) ↦[aset k]{q} f) :=
    pointsTo_biUnion _ _ (fun t ht t' ht' h => aset_disj (Finset.mem_coe.mpr ht) (Finset.mem_coe.mpr ht') h)
  rw [aset_cover] at h
  exact h

theorem wp_gather (c : Dev nD) (K' : Vec F S16x1x1 .f32 → P F) (Q : PUnit → sProp 𝕄) :
    iprop(bigSep Finset.univ (fun k => amxP c k fullShare.left (amaxC m c))
      ∗ (bigSep Finset.univ (fun k => amxP c k fullShare.left (amaxC m c)) -∗
        W c (K' (M7.view.readAt (Elt F) (Rect.unit (s := S16x8x128) ![0, 0, 0] S16x1x1.size inb_S16x8x128_S16x1x1_0_0_0).toLoadRect (amaxC m c))) Q))
      ⊢ W c (gatherMax M7 K') Q := by
  unfold gatherMax
  rw [← amx_whole]
  iintro ⟨H, Hk⟩
  iapply (wp_load 𝒱₀ (c : Thread nD τ) none Set.univ (m := M7) (Finset.subset_univ _)) $$ H; iintro H
  iapply Hk; iexact H

end Cert.KernelIdeal.Kern

end
-- ==== Proof.Kern.Tail.lean ====
/- Tiles quantised, sent, received and written to the result. -/
module

public import proofs.«01_k».proof.Proof.Kern.Exchange

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 68 → ℕ)

/-! ## Tiles quantised and sent -/

/-- Rectangles of one offset are one. -/
theorem emb_off {S : Shape} {o o' : Fin S.rank → ℕ} {size : Fin S.rank → ℕ} (e : o = o') (h : ∀ a, o a + size a ≤ S.size a) (h' : ∀ a, o' a + size a ≤ S.size a) (j : (⟨S.rank, size⟩ : Shape).Idx) :
    (Rect.unit (s := S) o size h).emb j = (Rect.unit (s := S) o' size h').emb j := by subst e; rfl

theorem res_readTo (c : Dev nD) (k : Fin 16) : M4.view.readAt (Elt F) (rectTo c k).toLoadRect (resC m c) = res m c (up c k) := by
  rw [← res_read m c (up c k)]
  funext j
  exact congrArg (resC m c) (emb_off (by rw [off1_eq c k, up_val]) (off1_inb c k) (inbTile (up c k)) j)

theorem res_readOwn (c : Dev nD) : M4.view.readAt (Elt F) (Rect.unit (s := S16x256x512) (k0_off2 c) S1x256x512.size (k0_off2_inb c)).toLoadRect (resC m c) = res m c c := by
  rw [← res_read m c c]
  funext j
  exact congrArg (resC m c) (emb_off (k0_off2_eq c) (k0_off2_inb c) (inbTile c) j)

/-- The contents of slot `k` of the landing buffer of the device `k` ahead, after the copy. -/
theorem stg_copy (c : Dev nD) (k : Fin 16) (f : Buf (Elt F) ((up c k : Thread nD τ).loc cc0_scratch3)) (i : S16x256x512.Idx) (hi : i ∈ tset k) :
    ((stg M6 k).view.write (Elt F) f ((snd M5 k).view.read (Elt F) (sndC m c)) Finset.univ : Buf (Elt F) ((up c k : Thread nD τ).loc cc0_scratch3)) i
      = stgC m (up c k) i := by
  have hk := (mem_tset k i).mp hi
  rw [← stg_set k] at hi
  obtain ⟨x, -, rfl⟩ := Finset.mem_map.mp hi
  refine (View.write_emb_of_mem (v := (stg M6 k).view) f _ (Finset.mem_univ x)).trans ?_
  have h1 : (snd M5 k).view.emb x = (stg M6 k).view.emb x := rfl
  show sndC m c ((snd M5 k).view.emb x) = stgC m (up c k) ((stg M6 k).view.emb x)
  rw [h1]
  unfold sndC stgC
  rw [hk, dn_up]

/-- What the copy of the tile for the device `k` ahead takes. -/
def datNeed (c : Dev nD) (k : Fin 16) : sProp 𝕄 :=
  iprop((∃ f, sndP c k f) ∗ (∃ f, stgP (up c k) k f) ∗ dutyTok ER (dsnd c k) 0 0 ∗ dutyTok ER (drcv (up c k) k) 0 0)

theorem wp_datSend_to (c : Dev nD) (k : Fin 16) (hk : 1 ≤ k.val) (n : Dev nD) (hn : n = up c k) (K' : P F) (Q' : PUnit → sProp 𝕄)
    {hsc : (stg M6 k).view.ref.isScScratch = false} {hsrc : (snd M5 k).view.WordExact} {hdst : (stg M6 k).view.WordExact}
    {hsem : DmaTarget.Typed .vmem (.dma (slot cc0_scratch7 k).sem) (.remote (Dev.tc n : Thread nD τ) (stg M6 k) (.dma (slot cc0_scratch6 k).sem) hsc)} :
    iprop(records m K ∗ Ow c (oweFrom (oweDat c) k.val) ∗ sndP c k (sndC m c) ∗ (∃ f, stgP (up c k) k f) ∗ dutyTok ER (dsnd c k) 0 0 ∗ dutyTok ER (drcv (up c k) k) 0 0
      ∗ (iprop(Ow c (oweFrom (oweDat c) (k.val + 1)) ∗ cred (tallyAt (dsnd c k) () Nd)) -∗ W c K' Q'))
      ⊢ W c (.op (.enqueueDma (snd M5 k) (.remote (Dev.tc n : Thread nD τ) (stg M6 k) (.dma (slot cc0_scratch6 k).sem) hsc) (.dma (slot cc0_scratch7 k).sem) hsrc hdst hsem) fun _ => K') Q' := by
  subst hn
  unfold Ow
  iintro ⟨#HR, ⟨%X, HO⟩, Hp, ⟨%f, Hd⟩, Ht, Ht', Hk⟩
  iapply (Rounds.wp_send_pointsTo 𝒱₀ ER (Rd m) (c : Thread nD τ) none (c' := (up c k : Thread nD τ)) (src := snd M5 k) (dst := stg M6 k)
    (sS := .dma (slot cc0_scratch6 k).sem) (sem := .dma (slot cc0_scratch7 k).sem) (κ₁ := K (c, ids k)) (κ₂ := K (up c k, idr k))
    (q := fullShare) (fs := sndC m c) (fd := f) (r₁ := 0) (r₂ := 0) (d₁ := 0) (d₂ := 0)
    (by rw [duties_dsnd m c k hk]; exact Finset.mem_singleton_self _) (by rw [duties_drcv m (up c k) k hk]; exact Finset.mem_singleton_self _)
    () () Nd (credit_stg k) (amount_dsnd m c k 0 0) (amount_drcv m (up c k) k 0 0)
    (O₀ := oweFrom (oweDat c) k.val) (oweFrom (oweDat c) (k.val + 1)) (by rw [oweFrom_peel]; rfl) (W := X)
    (by rw [payload_dsnd, snd_set]; unfold sndPay sndP; exact BI.Entails.refl _)
    (by
      rw [payload_drcv, stg_set]; unfold stgPay stgP
      iintro H
      iapply (pts_cg (ℓ := (up c k : Thread nD τ).loc cc0_scratch3) (g := stgC m (up c k)) (fun i hi => stg_copy m c k f i hi)) $$ H))
    $$ [Hp Hd HO Ht Ht']
  · isplitr; · iapply (rec_inv m K (c, ids k) _ (kcell_dsnd c k)); iexact HR
    isplitr; · iapply (rec_inv m K (up c k, idr k) _ (kcell_drcv (up c k) k)); iexact HR
    isplitl [Hp]; · rw [snd_set]; unfold sndP; iexact Hp
    isplitl [Hd]; · rw [stg_set]; unfold stgP; iexact Hd
    isplitl [HO]; · iexact HO
    isplitl [Ht]; · iexact Ht
    isplitr; · iapply (rec_reached m K (c, ids k) _ (kcell_dsnd c k)); iexact HR
    isplitl [Ht']; · iexact Ht'
    iapply (rec_reached m K (up c k, idr k) _ (kcell_drcv (up c k) k)); iexact HR
  iintro ⟨Hc, HO⟩
  iapply Hk
  isplitl [HO]; · iexists _; iexact HO
  iexact Hc

theorem wp_datSend (c : Dev nD) (k : Fin 16) (hk : 1 ≤ k.val) (K' : P F) (Q' : PUnit → sProp 𝕄) :
    iprop(records m K ∗ iprop(Ow c (oweFrom (oweDat c) k.val) ∗ resP m c) ∗ datNeed c k
      ∗ (iprop(iprop(Ow c (oweFrom (oweDat c) (k.val + 1)) ∗ resP m c) ∗ cred (tallyAt (dsnd c k) () Nd)) -∗ W c K' Q'))
      ⊢ W c (datSendK M4 M5 (Memref.isWhole_whole _) M6 (Memref.isWhole_whole _) cc0_scratch6 cc0_scratch7 c (invScaleOf (gm m c)) k K') Q' := by
  unfold datSendK datNeed
  iintro ⟨#HR, ⟨HO, Hres⟩, ⟨⟨%f, Hs⟩, Hd, Ht, Ht'⟩, Hk⟩
  unfold resP
  iapply (wp_load 𝒱₀ (c : Thread nD τ) none Set.univ (m := M4) (Finset.subset_univ _)) $$ Hres; iintro Hres
  rw [res_readTo]
  unfold sndP
  iapply (wp_load 𝒱₀ (c : Thread nD τ) none Set.univ (m := M5) (by
    intro i hi
    rw [← rectT_set k]
    exact (setOn_whole cc0_scratch2 (rectT k)) ▸ hi)) $$ Hs; iintro Hs
  iapply (wp_store 𝒱₀ (c : Thread nD τ) none Set.univ (m := M5) (r := rectT k) (Mk := Finset.univ) (by
    intro i hi
    rw [← rectT_set k]
    exact (setOn_access cc0_scratch2 (rectT k)) ▸ hi)) $$ Hs; iintro Hs
  iapply (wp_datSend_to m K c k hk _ (datDev_up c k hk) K' Q')
  isplitr; · iexact HR
  isplitl [HO]; · iexact HO
  isplitl [Hs]
  · unfold sndP
    iapply (pts_cg (ℓ := (c : Thread nD τ).loc cc0_scratch2) (g := sndC m c) (fun i hi => by
      have hi' : sl i = k := (mem_tset k i).mp hi
      refine (snd_in f k (quant (invScaleOf (gm m c)) (res m c (up c k))) i hi').trans ?_
      unfold sndC Q; rw [hi'])) $$ Hs
  isplitl [Hd]; · iexact Hd
  isplitl [Ht]; · iexact Ht
  isplitl [Ht']; · iexact Ht'
  iintro ⟨HO, Hc⟩
  iapply Hk
  isplitl [HO Hres]
  · isplitl [HO] <;> iassumption
  iexact Hc

/-- The tile kept. -/
theorem wp_own (c : Dev nD) (K' : P F) (Q' : PUnit → sProp 𝕄) :
    iprop(resP m c ∗ (∃ f, stgP c 0 f) ∗ (iprop(resP m c ∗ stgP c 0 (stgC m c)) -∗ W c K' Q'))
      ⊢ W c (ownK M4 M6 (Memref.isWhole_whole _) c (invScaleOf (gm m c)) K') Q' := by
  unfold ownK resP
  iintro ⟨Hres, ⟨%f, Hs⟩, Hk⟩
  iapply (wp_load 𝒱₀ (c : Thread nD τ) none Set.univ (m := M4) (Finset.subset_univ _)) $$ Hres; iintro Hres
  rw [res_readOwn]
  unfold stgP
  iapply (wp_load 𝒱₀ (c : Thread nD τ) none Set.univ (m := M6) (by
    intro i hi
    rw [← rectT_set 0]
    exact (setOn_whole cc0_scratch3 (rectT 0)) ▸ hi)) $$ Hs; iintro Hs
  iapply (wp_store 𝒱₀ (c : Thread nD τ) none Set.univ (m := M6) (r := rectT 0) (Mk := Finset.univ) (by
    intro i hi
    rw [← rectT_set 0]
    exact (setOn_access cc0_scratch3 (rectT 0)) ▸ hi)) $$ Hs; iintro Hs
  iapply Hk
  isplitl [Hres]; · iexact Hres
  iapply (pts_cg (ℓ := (c : Thread nD τ).loc cc0_scratch3) (g := stgC m c) (fun i hi => by
    have hi' : sl i = 0 := (mem_tset 0 i).mp hi
    refine (stg_in f 0 (quant (invScaleOf (gm m c)) (res m c c)) i hi').trans ?_
    unfold stgC Q; rw [hi', dn_zero])) $$ Hs

/-! ## Tiles to their rows of the result -/

abbrev rectO (d : Dev nD) (k : Fin 16) : Rect S4096x512 := Rect.unit (s := S4096x512) (k0_off3 d (BitVec.ofNat 32 k.val)) S256x512.size (off3_inb d k)

/-- Where an element of the result sits in its tile. -/
def pkO (i : S4096x512.Idx) : S256x512.Idx := fun a => match a with
  | ⟨0, _⟩ => ⟨(i (0 : Fin 2)).val % 256, Nat.mod_lt _ (by decide)⟩ | ⟨1, _⟩ => i (1 : Fin 2)

theorem rectO_row (c : Dev nD) (k : Fin 16) (j : S256x512.Idx) : (((rectO c k).emb j) (0 : Fin 2)).val = (dn c k).val * 256 + (j (0 : Fin 2)).val := by
  rw [dn_val]
  show k0_off3 c (BitVec.ofNat 32 k.val) (0 : Fin 2) + 1 * (j (0 : Fin 2)).val = _
  rw [off3_eq, Nat.one_mul]; rfl
theorem rectO_col (c : Dev nD) (k : Fin 16) (j : S256x512.Idx) : (((rectO c k).emb j) (1 : Fin 2)).val = (j (1 : Fin 2)).val := by
  show k0_off3 c (BitVec.ofNat 32 k.val) (1 : Fin 2) + 1 * (j (1 : Fin 2)).val = _
  rw [off3_eq, Nat.one_mul]; exact Nat.zero_add _

theorem emb_pkO (c : Dev nD) (k : Fin 16) (i : S4096x512.Idx) (h : (i (0 : Fin 2)).val / 256 = (dn c k).val) : (rectO c k).emb (pkO i) = i := by
  funext a; refine Fin.ext ?_
  match a with
  | ⟨0, _⟩ =>
    refine (rectO_row c k (pkO i)).trans ?_
    show (dn c k).val * 256 + (i (0 : Fin 2)).val % 256 = (i (0 : Fin 2)).val
    rw [← h]; omega
  | ⟨1, _⟩ => exact rectO_col c k (pkO i)

theorem rectO_set (c : Dev nD) (k : Fin 16) (i : S4096x512.Idx) (h : i ∈ (rectO c k).set) : (i (0 : Fin 2)).val / 256 = (dn c k).val := by
  rw [← Rect.map_emb_univ] at h
  obtain ⟨j, -, rfl⟩ := Finset.mem_map.mp h
  rw [rectO_row]
  have : (j (0 : Fin 2)).val < 256 := (j (0 : Fin 2)).isLt
  omega

theorem out_in (c : Dev nD) (k : Fin 16) (f : (cc0_stg1_0 : Ref sig .tc).ty.Contents (Elt F)) (v : Vec F S256x512 .f32) (i : S4096x512.Idx)
    (h : (i (0 : Fin 2)).val / 256 = (dn c k).val) :
    (((M2.access (rectO c k)).write (Elt F) f v Finset.univ : (cc0_stg1_0 : Ref sig .tc).ty.Contents (Elt F)) i : F .f32) = v (pkO i) := by
  have := write_in cc0_stg1_0 (rectO c k) f v (pkO i)
  rwa [emb_pkO c k i h] at this
theorem out_out (c : Dev nD) (k : Fin 16) (f : (cc0_stg1_0 : Ref sig .tc).ty.Contents (Elt F)) (v : Vec F S256x512 .f32) (i : S4096x512.Idx)
    (h : (i (0 : Fin 2)).val / 256 ≠ (dn c k).val) :
    (((M2.access (rectO c k)).write (Elt F) f v Finset.univ : (cc0_stg1_0 : Ref sig .tc).ty.Contents (Elt F)) i : F .f32) = f i :=
  write_out cc0_stg1_0 (rectO c k) f v i (fun h' => h (rectO_set c k i h'))

/-- The result, the rows of the first `n` senders behind in place. -/
def Out (c : Dev nD) (n : ℕ) (f : (cc0_stg1_0 : Ref sig .tc).ty.Contents (Elt F)) : Prop :=
  ∀ (k : Fin 16) (i : S4096x512.Idx), k.val < n → (i (0 : Fin 2)).val / 256 = (dn c k).val → (f i : F .f32) = outC m c i
def outP (c : Dev nD) (n : ℕ) : sProp 𝕄 :=
  iprop(∃ f : Buf (Elt F) ((c : Thread nD τ).loc cc0_stg1_0), ⌜Out m c n f⌝ ∗ (((c : Thread nD τ).loc cc0_stg1_0) ↦{fullShare} f))

theorem out_step (c : Dev nD) (k : Fin 16) (f : (cc0_stg1_0 : Ref sig .tc).ty.Contents (Elt F)) (h : Out m c k.val f) :
    Out m c (k.val + 1) ((M2.access (rectO c k)).write (Elt F) f (dequant (F := F) (scaleOf (gm m c)) (Q m (dn c k) c)) Finset.univ) := by
  intro k' i hk' hi
  by_cases h' : (i (0 : Fin 2)).val / 256 = (dn c k).val
  · rw [out_in c k f _ i h']
    show _ = dequant (F := F) (scaleOf (gm m c)) (Q m (pm ((i (0 : Fin 2)).val / 256)) c) (pkO i)
    rw [h', pm_val]
  · rw [out_out c k f _ i h']
    refine h k' i ?_ hi
    have : k'.val ≠ k.val := fun e => h' (by rw [hi, Fin.ext e])
    omega

theorem dn_dn : ∀ (c : Dev nD) (r : Fin 16), dn c (dn c r) = r := by decide +kernel

theorem out_all (c : Dev nD) : outP m c 16 ⊢ iprop(((c : Thread nD τ).loc cc0_stg1_0) ↦{fullShare} outC m c) := by
  unfold outP
  iintro ⟨%f, %h, H⟩
  iapply (pts_cg (ℓ := (c : Thread nD τ).loc cc0_stg1_0) (fun i _ => h (dn c (⟨(i (0 : Fin 2)).val / 256, by have : (i (0 : Fin 2)).val < 4096 := (i (0 : Fin 2)).isLt; omega⟩ : Fin 16)) i (Fin.isLt _)
    (by rw [dn_dn]))) $$ H

theorem stg_readC (c : Dev nD) (k : Fin 16) : M6.view.readAt (Elt F) (rectT k).toLoadRect (stgC m c) = Q m (dn c k) c :=
  stg_read _ _ k (fun i hi => by unfold stgC; rw [hi])

theorem wp_out (c : Dev nD) (k : Fin 16) (K' : P F) (Q' : PUnit → sProp 𝕄) :
    iprop(stgP c k (stgC m c) ∗ outP m c k.val ∗ (iprop(stgP c k (stgC m c) ∗ outP m c (k.val + 1)) -∗ W c K' Q'))
      ⊢ W c (outK M2 M6 c (scaleOf (gm m c)) k K') Q' := by
  unfold outK stgP outP
  iintro ⟨Hs, ⟨%f, %h, Ho⟩, Hk⟩
  iapply (wp_load 𝒱₀ (c : Thread nD τ) none Set.univ (m := M6) (by
    intro i hi
    rw [← rectT_set k]
    exact (setOn_whole cc0_scratch3 (rectT k)) ▸ hi)) $$ Hs; iintro Hs
  rw [stg_readC]
  iapply (wp_load 𝒱₀ (c : Thread nD τ) none Set.univ (m := M2) (Finset.subset_univ _)) $$ Ho; iintro Ho
  iapply (wp_store 𝒱₀ (c : Thread nD τ) none Set.univ (m := M2) (r := rectO c k) (Mk := Finset.univ) (Finset.subset_univ _)) $$ Ho; iintro Ho
  iapply Hk
  isplitl [Hs]; · iexact Hs
  iexists _
  isplitr; · ipureintro; exact out_step m c k f h
  iexact Ho

/-! ## The waits -/

def datWait (c : Dev nD) (k : Fin 16) : sProp 𝕄 := iprop(cred (tallyAt (drcv c k) () Nd) ∗ atPos ER (drcv c k) 0 ∅ 0)
def datGot (c : Dev nD) (k : Fin 16) : sProp 𝕄 := iprop(stgP c k (stgC m c) ∗ atPos ER (drcv c k) 1 ∅ 0)

theorem wp_datRecv (c : Dev nD) (k : Fin 16) (hk : 1 ≤ k.val) (K' : P F) (Q' : PUnit → sProp 𝕄) :
    iprop(records m K ∗ iprop(Ow c 0 ∗ outP m c k.val) ∗ datWait c k ∗ (iprop(iprop(Ow c 0 ∗ outP m c (k.val + 1)) ∗ datGot m c k) -∗ W c K' Q'))
      ⊢ W c (datRecvK M5 (Memref.isWhole_whole _) M6 (Memref.isWhole_whole _) cc0_scratch7 k <| outK M2 M6 c (scaleOf (gm m c)) k K') Q' := by
  have h := wait_one m K c (slot cc0_scratch7 k).sem (c, idr k) (kcell_drcv c k) 0 Nd (snd M5 k) (stg M6 k)
    (((Memref.isWhole_whole cc0_scratch2).wordExact_slice rfl _ (wordsTile k)).reshape _ _) (((Memref.isWhole_whole cc0_scratch3).wordExact_slice rfl _ (wordsTile k)).reshape _ _)
    (duties_drcv m c k hk) (amount_drcv m c k 0 0) (credit_stg k) 0 no_owe (outK M2 M6 c (scaleOf (gm m c)) k K') Q'
  rw [payload_drcv] at h
  unfold datWait datGot
  iintro ⟨#HR, ⟨HO, Hout⟩, ⟨Hc, Hat⟩, Hk⟩
  iapply h
  isplitr; · iexact HR
  isplitl [Hc]; · iexact Hc
  isplitl [HO]; · iexact HO
  isplitl [Hat]; · iexact Hat
  iintro ⟨HO, Hat, -, Hp⟩
  iapply (wp_out m c k K' Q')
  isplitl [Hp]; · unfold stgPay; iexact Hp
  isplitl [Hout]; · iexact Hout
  iintro ⟨Hp, Hout⟩
  iapply Hk
  isplitl [HO Hout]
  · isplitl [HO] <;> iassumption
  isplitl [Hp] <;> iassumption

def doneWait (c : Dev nD) (k : Fin 16) : sProp 𝕄 :=
  iprop(cred (tallyAt (dsnd c k) () Nd) ∗ atPos ER (dsnd c k) 0 ∅ 0 ∗ cred (tallyAt (asnd c k) () Na) ∗ atPos ER (asnd c k) 0 ∅ 0)
def doneGot (c : Dev nD) (k : Fin 16) : sProp 𝕄 :=
  iprop(sndP c k (sndC m c) ∗ amxP c 0 (pieceS k.val) (amaxC m c) ∗ atPos ER (dsnd c k) 1 ∅ 0 ∗ atPos ER (asnd c k) 1 ∅ 0)

theorem wp_done (c : Dev nD) (k : Fin 16) (hk : 1 ≤ k.val) (K' : P F) (Q' : PUnit → sProp 𝕄) :
    iprop(records m K ∗ Ow c 0 ∗ doneWait c k ∗ (iprop(Ow c 0 ∗ doneGot m c k) -∗ W c K' Q'))
      ⊢ W c (datDoneK M5 (Memref.isWhole_whole _) M6 (Memref.isWhole_whole _) cc0_scratch6 k <| maxDoneK M7 cc0_scratch8 k K') Q' := by
  have h1 := wait_one m K c (slot cc0_scratch6 k).sem (c, ids k) (kcell_dsnd c k) 0 Nd (stg M6 k) (snd M5 k)
    (((Memref.isWhole_whole cc0_scratch3).wordExact_slice rfl _ (wordsTile k)).reshape _ _) (((Memref.isWhole_whole cc0_scratch2).wordExact_slice rfl _ (wordsTile k)).reshape _ _)
    (duties_dsnd m c k hk) (amount_dsnd m c k 0 0) (credit_snd k) 0 no_owe (maxDoneK M7 cc0_scratch8 k K') Q'
  have h2 := wait_one m K c (slot cc0_scratch8 k).sem (c, ias k) (kcell_asnd c k) 0 Na (amx M7 k) (amx M7 0)
    ((View.wordExact_bits rfl).reshape _ _) ((View.wordExact_bits rfl).reshape _ _)
    (duties_asnd m c k hk) (amount_asnd m c k 0 0) (credit_amx 0) 0 no_owe K' Q'
  rw [payload_dsnd] at h1
  rw [payload_asnd] at h2
  unfold doneWait doneGot
  iintro ⟨#HR, HO, ⟨Hc, Hat, Hc', Hat'⟩, Hk⟩
  iapply h1
  isplitr; · iexact HR
  isplitl [Hc]; · iexact Hc
  isplitl [HO]; · iexact HO
  isplitl [Hat]; · iexact Hat
  iintro ⟨HO, Hat, -, Hp⟩
  iapply h2
  isplitr; · iexact HR
  isplitl [Hc']; · iexact Hc'
  isplitl [HO]; · iexact HO
  isplitl [Hat']; · iexact Hat'
  iintro ⟨HO, Hat', -, Hp'⟩
  iapply Hk
  isplitl [HO]; · iexact HO
  isplitl [Hp]; · unfold sndPay; iexact Hp
  isplitl [Hp']; · unfold asndPay; iexact Hp'
  isplitl [Hat] <;> iassumption

/-! ## From the quantisation on -/

/-- What the rest of the body waits with, besides the copies' own credits. -/
def donePos (c : Dev nD) (k : Fin 16) : sProp 𝕄 :=
  iprop(atPos ER (dsnd c k) 0 ∅ 0 ∗ cred (tallyAt (asnd c k) () Na) ∗ atPos ER (asnd c k) 0 ∅ 0)

theorem wp_tail (c : Dev nD) (Q' : PUnit → sProp 𝕄) :
    iprop(records m K ∗ Ow c (O₂ c) ∗ resP m c ∗ along (datNeed c) 15 1 (by decide) ∗ (∃ f, stgP c 0 f)
      ∗ (∃ f : Buf (Elt F) ((c : Thread nD τ).loc cc0_stg1_0), ((c : Thread nD τ).loc cc0_stg1_0) ↦{fullShare} f)
      ∗ along (datWait c) 15 1 (by decide) ∗ along (donePos c) 15 1 (by decide)
      ∗ (iprop(Ow c 0 ∗ resP m c ∗ stgP c 0 (stgC m c) ∗ outP m c 16 ∗ along (datGot m c) 15 1 (by decide) ∗ along (doneGot m c) 15 1 (by decide)) -∗ W c (.ret ⟨⟩) Q'))
      ⊢ W c (tailK M2 M4 M5 (Memref.isWhole_whole _) M6 (Memref.isWhole_whole _) M7 cc0_scratch6 cc0_scratch7 cc0_scratch8 c (gm m c)) Q' := by
  unfold tailK O₂
  rw [← oweFrom_one]
  have h1 : 1 + 15 ≤ 16 := by decide
  have h2 : 1 ≤ 1 := by decide
  iintro ⟨#HR, HO, Hres, Hn, Hs0, ⟨%f, Hout⟩, Hw, Hd, Hk⟩
  iapply (wp_loop c (R := records m K) 1 16 (fun n => iprop(Ow c (oweFrom (oweDat c) n) ∗ resP m c)) (datNeed c) (fun k => cred (tallyAt (dsnd c k) () Nd)) _ _ Q'
    (fun k K'' hk _ => wp_datSend m K c k hk K'' Q') 15 1 h1 h2 h1)
  isplitr; · iexact HR
  isplitl [HO Hres]
  · isplitl [HO] <;> iassumption
  isplitl [Hn]; · iexact Hn
  rw [show 1 + 15 = 16 from rfl, oweFrom_end]
  iintro ⟨⟨HO, Hres⟩, Hcs⟩
  iapply (wp_own m c _ Q')
  isplitl [Hres]; · iexact Hres
  isplitl [Hs0]; · iexact Hs0
  iintro ⟨Hres, Hs0⟩
  iapply (wp_out m c 0 _ Q')
  isplitl [Hs0]; · iexact Hs0
  isplitl [Hout]
  · unfold outP
    iexists f
    isplitr; · ipureintro; exact fun k i hk => absurd hk (Nat.not_lt_zero _)
    iexact Hout
  iintro ⟨Hs0, Hout⟩
  iapply (wp_loop c (R := records m K) 1 16 (fun n => iprop(Ow c 0 ∗ outP m c n)) (datWait c) (datGot m c) _ _ Q'
    (fun k K'' hk _ => wp_datRecv m K c k hk K'' Q') 15 1 h1 h2 h1)
  isplitr; · iexact HR
  isplitl [HO Hout]
  · isplitl [HO]; · iexact HO
    iexact Hout
  isplitl [Hw]; · iexact Hw
  iintro ⟨⟨HO, Hout⟩, Hg⟩
  iapply (wp_loop c (R := records m K) 1 16 (fun n => Ow c 0) (doneWait c) (doneGot m c) _ _ Q'
    (fun k K'' hk _ => wp_done m K c k hk K'' Q') 15 1 h1 h2 h1)
  isplitr; · iexact HR
  isplitl [HO]; · iexact HO
  isplitl [Hcs Hd]
  · ihave H := (along_sep (fun k => cred (tallyAt (dsnd c k) () Nd)) (donePos c) 15 1 h1) $$ [Hcs Hd]
    · isplitl [Hcs] <;> iassumption
    iexact H
  iintro ⟨HO, Hdone⟩
  iapply Hk
  isplitl [HO]; · iexact HO
  isplitl [Hres]; · iexact Hres
  isplitl [Hs0]; · iexact Hs0
  isplitl [Hout]; · iexact Hout
  isplitl [Hg] <;> iassumption

end Cert.KernelIdeal.Kern

end
-- ==== Proof.Kern.Split.lean ====
/- Cutting and joining: stretches of pieces, buffers, shares and the cells of a device. -/
module

public import proofs.«01_k».proof.Proof.Kern.Tail

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Stretches of devices' pieces, cut and joined -/

omit [FloatOps F] in
theorem along_join (Φ : Fin 16 → sProp 𝕄) : ∀ (a lo : ℕ) (ha : lo + a ≤ 16) (b lo' n : ℕ) (hb : lo' + b ≤ 16) (hn : lo + n ≤ 16) (h1 : lo' = lo + a) (h2 : n = a + b),
    iprop(along Φ a lo ha ∗ along Φ b lo' hb) ⊢ along Φ n lo hn
  | 0, lo, ha, b, lo', n, hb, hn, h1, h2 => by
    obtain rfl : lo' = lo := h1
    obtain rfl : n = b := by omega
    iintro ⟨-, H⟩; iexact H
  | a + 1, lo, ha, b, lo', n, hb, hn, h1, h2 => by
    obtain ⟨n', rfl⟩ : ∃ n', n = n' + 1 := ⟨a + b, by omega⟩
    have ih := along_join Φ a (lo + 1) (by omega) b lo' n' hb (by omega) (by omega) (by omega)
    rw [along_succ, along_succ]
    iintro ⟨⟨H0, H1⟩, H2⟩
    isplitl [H0]; · iexact H0
    iapply ih
    isplitl [H1] <;> iassumption

omit [FloatOps F] in
theorem along_cut (Φ : Fin 16 → sProp 𝕄) : ∀ (a lo : ℕ) (ha : lo + a ≤ 16) (b lo' n : ℕ) (hb : lo' + b ≤ 16) (hn : lo + n ≤ 16) (h1 : lo' = lo + a) (h2 : n = a + b),
    along Φ n lo hn ⊢ iprop(along Φ a lo ha ∗ along Φ b lo' hb)
  | 0, lo, ha, b, lo', n, hb, hn, h1, h2 => by
    obtain rfl : lo' = lo := h1
    obtain rfl : n = b := by omega
    iintro H
    isplitr; · unfold along; iempintro
    iexact H
  | a + 1, lo, ha, b, lo', n, hb, hn, h1, h2 => by
    obtain ⟨n', rfl⟩ : ∃ n', n = n' + 1 := ⟨a + b, by omega⟩
    have ih := along_cut Φ a (lo + 1) (by omega) b lo' n' hb (by omega) (by omega) (by omega)
    rw [along_succ, along_succ]
    iintro ⟨H0, H⟩
    ihave H' := ih $$ H
    icases H' with ⟨H1, H2⟩
    isplitr [H2]
    · isplitl [H0] <;> iassumption
    iexact H2

omit [FloatOps F] in
theorem along_shift (Φ : Fin 16 → sProp 𝕄) : ∀ (n lo : ℕ) (hl : lo + n ≤ 16) (hl' : lo + 3 + n ≤ 16),
    along Φ n (lo + 3) hl' ⊢ along (fun p => Φ (nx p)) n lo hl
  | 0, _, _, _ => Entails.refl _
  | n + 1, lo, hl, hl' => by
    have ih := along_shift Φ n (lo + 1) (by omega) (by omega)
    have e : nx ⟨lo, by omega⟩ = ⟨lo + 3, by omega⟩ := Fin.ext (show (lo + 3) % 16 = lo + 3 by omega)
    rw [along_succ, along_succ, e]
    iintro ⟨H0, H⟩
    isplitl [H0]; · iexact H0
    iapply ih; iexact H

omit [FloatOps F] in
/-- A whole family is its first piece and the other fifteen. -/
theorem full_head (Φ : Fin 16 → sProp 𝕄) : bigSep Finset.univ Φ ⊢ iprop(Φ 0 ∗ along Φ 15 1 (by decide)) := along_full Φ
omit [FloatOps F] in
theorem head_full (Φ : Fin 16 → sProp 𝕄) : iprop(Φ 0 ∗ along Φ 15 1 (by decide)) ⊢ bigSep Finset.univ Φ := full_along Φ

def negE : Fin 16 ≃ Fin 16 := ⟨fun k => -k, fun k => -k, by decide +kernel, by decide +kernel⟩
omit [FloatOps F] in
theorem neg_full (Φ : Fin 16 → sProp 𝕄) : bigSep Finset.univ Φ ⊢ bigSep Finset.univ (fun k => Φ (-k)) :=
  Entails.of_eq (bigSep_univ_equiv negE Φ)

/-! ## Buffers cut into slots and put together again -/

omit [FloatOps F] in
theorem buf_cut {I : Type} [Fintype I] [DecidableEq I] {ℓ : Loc nD τ sig} (S : I → Finset (Idx ℓ)) (hd : Set.PairwiseDisjoint (↑(Finset.univ : Finset I)) S)
    (hc : Finset.univ.biUnion S = Finset.univ) (q : PosShare TreeShare) (f : Buf (Elt F) ℓ) :
    (ℓ ↦{q} f : sProp 𝕄) ⊣⊢ bigSep Finset.univ fun k => (ℓ ↦[S k]{q} f : sProp 𝕄) := by
  rw [← hc]
  have h := pointsTo_biUnion (Ix := Unit) (Name := ℕ) (U := UU) (Lvl := ℕ) (q := q) (f := f) Finset.univ S (fun a ha b hb h => hd ha hb h)
  exact ⟨Entails.of_eq h, Entails.of_eq h.symm⟩

omit [FloatOps F] in
theorem buf_slots {I : Type} [Fintype I] [DecidableEq I] {ℓ : Loc nD τ sig} (S : I → Finset (Idx ℓ)) (hd : Set.PairwiseDisjoint (↑(Finset.univ : Finset I)) S)
    (hc : Finset.univ.biUnion S = Finset.univ) (q : PosShare TreeShare) :
    (iprop(∃ f : Buf (Elt F) ℓ, ℓ ↦{q} f) : sProp 𝕄) ⊢ bigSep Finset.univ fun k => iprop(∃ f, ℓ ↦[S k]{q} f) := by
  iintro ⟨%f, H⟩
  have h : (bigSep Finset.univ fun k => (ℓ ↦[S k]{q} f : sProp 𝕄)) ⊢ bigSep Finset.univ fun k => iprop(∃ f, ℓ ↦[S k]{q} f) :=
    bigSep_mono fun k _ => by
      have h : (ℓ ↦[S k]{q} f : sProp 𝕄) ⊢ iprop(∃ f, ℓ ↦[S k]{q} f) := by
        iintro H; iexists f; iexact H
      exact h
  ihave H' := (buf_cut S hd hc q f).1 $$ H
  iapply h $$ H'

omit [FloatOps F] in
theorem buf_whole {I : Type} [Fintype I] [DecidableEq I] {ℓ : Loc nD τ sig} (S : I → Finset (Idx ℓ)) (hd : Set.PairwiseDisjoint (↑(Finset.univ : Finset I)) S)
    (hc : Finset.univ.biUnion S = Finset.univ) (q : PosShare TreeShare) (f₀ : Buf (Elt F) ℓ) :
    (bigSep Finset.univ fun k => iprop(∃ f, ℓ ↦[S k]{q} f) : sProp 𝕄) ⊢ iprop(∃ f : Buf (Elt F) ℓ, ℓ ↦{q} f) := by
  haveI : Nonempty (Buf (Elt F) ℓ) := ⟨f₀⟩
  have h1 : (bigSep Finset.univ fun k => iprop(∃ f, ℓ ↦[S k]{q} f) : sProp 𝕄) ⊢ iprop(∃ y : I → Buf (Elt F) ℓ, bigSep Finset.univ fun k => ℓ ↦[S k]{q} y k) :=
    bigSep_exists_pi Finset.univ (fun k f => (ℓ ↦[S k]{q} f : sProp 𝕄))
  iintro H
  ihave H' := h1 $$ H
  icases H' with ⟨%y, H⟩
  have h2 := pointsTo_biUnion_join (Ix := Unit) (Name := ℕ) (U := UU) (Lvl := ℕ) (q := q) Finset.univ S y f₀ (fun a ha b hb h => hd ha hb h)
  ihave H' := h2 $$ H
  rw [hc]
  icases H' with ⟨%g, -, H⟩
  iexists g; iexact H

/-! ## The shares of slot 0 of the maxima -/

/-- The fifteen pieces lent and what remained make the share again. -/
theorem shares_join (c : Dev nD) (f : Buf (Elt F) ((c : Thread nD τ).loc cc0_scratch4)) : ∀ (n lo : ℕ) (hl : lo + n ≤ 16),
    iprop(along (fun k => amxP c 0 (pieceS k.val) f) n lo hl ∗ amxP c 0 (remS (lo + n)) f) ⊢ amxP c 0 (remS lo) f
  | 0, lo, hl => by iintro ⟨-, H⟩; iexact H
  | n + 1, lo, hl => by
    have ih := shares_join c f n (lo + 1) (by omega)
    have e : lo + (n + 1) = lo + 1 + n := by omega
    rw [show remS (lo + (n + 1)) = remS (lo + 1 + n) from congrArg remS e]
    rw [along_succ]
    iintro ⟨⟨H0, H1⟩, H2⟩
    iapply (amx_share c 0 (remS lo) f).2
    isplitl [H0]; · iexact H0
    iapply ih
    isplitl [H1] <;> iassumption

/-! ## The cells, all sixty-eight -/

omit [FloatOps F] in
/-- A family over a device's cells, kind by kind. -/
theorem cells_split (Φ : Fin 68 → sProp 𝕄) : bigSep Finset.univ Φ
    = iprop(Φ 0 ∗ (Φ (iw 0) ∗ Φ (iw 1) ∗ Φ (iw 2)) ∗ (bigSep Finset.univ fun k => Φ (ids k)) ∗ (bigSep Finset.univ fun k => Φ (idr k))
        ∗ (bigSep Finset.univ fun k => Φ (ias k)) ∗ (bigSep Finset.univ fun k => Φ (iar k))) := by
  have ha : ∀ P Q R : sProp 𝕄, iprop((P ∗ Q) ∗ R) = iprop(P ∗ Q ∗ R) := fun P Q R => by
    have h1 : (iprop((P ∗ Q) ∗ R) : sProp 𝕄) ⊢ iprop(P ∗ Q ∗ R) := by
      iintro ⟨⟨A, B⟩, C⟩; isplitl [A]; · iexact A
      isplitl [B] <;> iassumption
    have h2 : (iprop(P ∗ Q ∗ R) : sProp 𝕄) ⊢ iprop((P ∗ Q) ∗ R) := by
      iintro ⟨A, B, C⟩; isplitr [C]
      · isplitl [A] <;> iassumption
      iexact C
    exact equiv_iff.mp ⟨h1, h2⟩
  rw [bigSep_16, bigSep_16, bigSep_16, bigSep_16]
  simp only [ha]
  exact bigSep_univ_eq_bigSepL (List.finRange 68) (by decide +kernel) (by decide +kernel) Φ

/-- A cell that has gone through its last round. -/
def closeP (g : GSem nD τ sig) : sProp 𝕄 := iprop(∃ R : ℕ, ⌜∀ r, R ≤ r → (Rd m).duties g r = ∅⌝ ∗ atPos ER g R ∅ 0)

variable (K : Dev nD × Fin 68 → ℕ)

theorem close_one (ci : Dev nD × Fin 68) : iprop(records m K ∗ closeP m (kcell ci)) ⊢ iprop(|={Set.univ}=> semVal (kcell ci) 0) := by
  unfold closeP
  iintro ⟨#HR, %R, %hR, H⟩
  iapply (Rounds.cell_close ER (Rd m) (Set.mem_univ (K ci)) (fun h => h) hR)
  isplitr; · iapply (rec_inv m K ci _ rfl); iexact HR
  iexact H

theorem close_all (c : Dev nD) : iprop(records m K ∗ bigSep Finset.univ fun i : Fin 68 => closeP m (kcell (c, i)))
    ⊢ iprop(|={Set.univ}=> bigSep Finset.univ fun i : Fin 68 => semVal (kcell (c, i)) 0) := by
  have h : iprop(records m K ∗ bigSep Finset.univ fun i : Fin 68 => closeP m (kcell (c, i))) ⊢ (bigSep Finset.univ fun i : Fin 68 => iprop(|={Set.univ}=> semVal (kcell (c, i)) 0) : sProp 𝕄) :=
    (BI.sep_mono (BI.bigSep_of_persistent Finset.univ (records m K)) (Entails.refl _)).trans ((Entails.of_eq (bigSep_sep' Finset.univ _ _).symm).trans (bigSep_mono fun i _ => close_one m K (c, i)))
  exact h.trans (bigSep_fupd _ _)

theorem close_bar (c : Dev nD) : atPos ER (barCell c) 1 ∅ 0 ⊢ closeP m (kcell (c, 0)) := by
  unfold closeP; rw [kcell_bar]
  iintro H; iexists 1; isplitr; · ipureintro; exact fun r hr => bar_later m c r hr
  iexact H
theorem close_w (c : Dev nD) (p : Fin 16) (h : 13 ≤ p.val) : atPos ER (wCell c p) (p.val / 3 + 1) ∅ 0 ⊢ closeP m (kcell (c, iw p)) := by
  unfold closeP; rw [kcell_w]
  iintro H; iexists (p.val / 3 + 1); isplitr
  · ipureintro; intro r hr
    show dmaDuties (wslot cc0_scratch5 p).sem.val r = ∅
    rw [wslot_sem]
    exact later_of (2 + p.val % 3) (p.val / 3 + 1) (fun _ => by omega) (fun h => by omega) r hr
  iexact H
theorem close_dsnd (c : Dev nD) (k : Fin 16) (a : ℕ) (h : 1 ≤ a ∨ k = 0) : atPos ER (dsnd c k) a ∅ 0 ⊢ closeP m (kcell (c, ids k)) := by
  unfold closeP; rw [kcell_dsnd]
  iintro H; iexists a; isplitr
  · ipureintro; intro r hr
    show dmaDuties (slot cc0_scratch6 k).sem.val r = ∅
    rw [dsnd_sem]
    exact later_of (5 + k.val) a (fun h => by omega) (fun _ => h.imp id fun h => by subst h; rfl) r hr
  iexact H
theorem close_drcv (c : Dev nD) (k : Fin 16) (a : ℕ) (h : 1 ≤ a ∨ k = 0) : atPos ER (drcv c k) a ∅ 0 ⊢ closeP m (kcell (c, idr k)) := by
  unfold closeP; rw [kcell_drcv]
  iintro H; iexists a; isplitr
  · ipureintro; intro r hr
    show dmaDuties (slot cc0_scratch7 k).sem.val r = ∅
    rw [drcv_sem]
    exact later_of (21 + k.val) a (fun h => by omega) (fun _ => h.imp id fun h => by subst h; rfl) r hr
  iexact H
theorem close_asnd (c : Dev nD) (k : Fin 16) (a : ℕ) (h : 1 ≤ a ∨ k = 0) : atPos ER (asnd c k) a ∅ 0 ⊢ closeP m (kcell (c, ias k)) := by
  unfold closeP; rw [kcell_asnd]
  iintro H; iexists a; isplitr
  · ipureintro; intro r hr
    show dmaDuties (slot cc0_scratch8 k).sem.val r = ∅
    rw [asnd_sem]
    exact later_of (37 + k.val) a (fun h => by omega) (fun _ => h.imp id fun h => by subst h; rfl) r hr
  iexact H
theorem close_arcv (c : Dev nD) (k : Fin 16) (a : ℕ) (h : 1 ≤ a ∨ k = 0) : atPos ER (arcv c k) a ∅ 0 ⊢ closeP m (kcell (c, iar k)) := by
  unfold closeP; rw [kcell_arcv]
  iintro H; iexists a; isplitr
  · ipureintro; intro r hr
    show dmaDuties (slot cc0_scratch9 k).sem.val r = ∅
    rw [arcv_sem]
    exact later_of (53 + k.val) a (fun h => by omega) (fun _ => h.imp id fun h => by subst h; rfl) r hr
  iexact H

end Cert.KernelIdeal.Kern

end
-- ==== Proof.Kern.Parts.lean ====
/- What a device starts with, arranged for the stretches of its body, and what they leave, put together again. -/
module

public import proofs.«01_k».proof.Proof.Kern.Split

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 68 → ℕ) (c : Dev nD)

/-! ## What a device starts with -/

/-- The tokens of the contributions it makes. -/
def payToks : sProp 𝕄 :=
  iprop((bigSep Finset.univ fun k : Fin 16 => dutyTok ER (barCell (up c k)) 0 (-k)) ∗ (bigSep Finset.univ fun k : Fin 16 => dutyTok ER (asnd c k) 0 0)
    ∗ (bigSep Finset.univ fun k : Fin 16 => dutyTok ER (arcv (up c k) k) 0 0) ∗ (bigSep Finset.univ fun k : Fin 16 => dutyTok ER (dsnd c k) 0 0)
    ∗ (bigSep Finset.univ fun k : Fin 16 => dutyTok ER (drcv (up c k) k) 0 0) ∗ (bigSep Finset.univ fun p : Fin 16 => dutyTok ER (wCell c p) (p.val / 3) 0))

/-- The credits of the waits for what others contribute. -/
def creds : sProp 𝕄 :=
  iprop(cred (tallyAt (barCell c) () 15) ∗ along (fun k => cred (tallyAt (arcv c k) () Na)) 15 1 (by decide)
    ∗ along (fun k => cred (tallyAt (drcv c k) () Nd)) 15 1 (by decide))

def ghost : sProp 𝕄 := iprop((bigSep Finset.univ fun i : Fin 68 => atPos ER (kcell (c, i)) 0 ∅ 0) ∗ payToks c)

def argP : sProp 𝕄 := ((c : Thread nD τ).loc main_arg1) ↦{fullShare} m ((c : Thread nD τ).loc main_arg1)

def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-! ## Arranged for the stretches of the body -/

theorem prep_pos : (bigSep Finset.univ fun i : Fin 68 => atPos ER (kcell (c, i)) 0 ∅ 0 : sProp 𝕄)
    ⊢ iprop(atPos ER (barCell c) 0 ∅ 0 ∗ (atPos ER (wCell c 0) 0 ∅ 0 ∗ atPos ER (wCell c 1) 0 ∅ 0 ∗ atPos ER (wCell c 2) 0 ∅ 0)
      ∗ (atPos ER (dsnd c 0) 0 ∅ 0 ∗ along (fun k => atPos ER (dsnd c k) 0 ∅ 0) 15 1 (by decide))
      ∗ (atPos ER (drcv c 0) 0 ∅ 0 ∗ along (fun k => atPos ER (drcv c k) 0 ∅ 0) 15 1 (by decide))
      ∗ (atPos ER (asnd c 0) 0 ∅ 0 ∗ along (fun k => atPos ER (asnd c k) 0 ∅ 0) 15 1 (by decide))
      ∗ (atPos ER (arcv c 0) 0 ∅ 0 ∗ along (fun k => atPos ER (arcv c k) 0 ∅ 0) 15 1 (by decide))) := by
  rw [cells_split]
  simp only [kcell_bar, kcell_w, kcell_dsnd, kcell_drcv, kcell_asnd, kcell_arcv]
  iintro ⟨Hb, Hw, H1, H2, H3, H4⟩
  ihave H1 := (full_head (fun k => (atPos ER (dsnd c k) 0 ∅ 0 : sProp 𝕄))) $$ H1
  ihave H2 := (full_head (fun k => (atPos ER (drcv c k) 0 ∅ 0 : sProp 𝕄))) $$ H2
  ihave H3 := (full_head (fun k => (atPos ER (asnd c k) 0 ∅ 0 : sProp 𝕄))) $$ H3
  ihave H4 := (full_head (fun k => (atPos ER (arcv c k) 0 ∅ 0 : sProp 𝕄))) $$ H4
  isplitl [Hb]; · iexact Hb
  isplitl [Hw]; · iexact Hw
  isplitl [H1]; · iexact H1
  isplitl [H2]; · iexact H2
  isplitl [H3]; · iexact H3
  iexact H4

omit [FloatOps F] in
theorem stg_slots : (iprop(∃ f : Buf (Elt F) ((c : Thread nD τ).loc cc0_scratch3), ((c : Thread nD τ).loc cc0_scratch3) ↦{fullShare} f) : sProp 𝕄)
    ⊢ bigSep Finset.univ fun k => iprop(∃ f, stgP (F := F) c k f) :=
  buf_slots (ℓ := (c : Thread nD τ).loc cc0_scratch3) tset tset_disj tset_cover fullShare
omit [FloatOps F] in
theorem snd_slots : (iprop(∃ f : Buf (Elt F) ((c : Thread nD τ).loc cc0_scratch2), ((c : Thread nD τ).loc cc0_scratch2) ↦{fullShare} f) : sProp 𝕄)
    ⊢ bigSep Finset.univ fun k => iprop(∃ f, sndP (F := F) c k f) :=
  buf_slots (ℓ := (c : Thread nD τ).loc cc0_scratch2) tset tset_disj tset_cover fullShare
omit [FloatOps F] in
theorem amx_slots : (iprop(∃ f : Buf (Elt F) ((c : Thread nD τ).loc cc0_scratch4), ((c : Thread nD τ).loc cc0_scratch4) ↦{fullShare} f) : sProp 𝕄)
    ⊢ bigSep Finset.univ fun k => iprop(∃ f, amxP (F := F) c k fullShare f) :=
  buf_slots (ℓ := (c : Thread nD τ).loc cc0_scratch4) aset aset_disj aset_cover fullShare
omit [FloatOps F] in
theorem w_three : (bigSep Finset.univ fun b : Fin 3 => (iprop(∃ f : Buf (Elt F) ((c : Thread nD τ).loc cc0_scratch0), ((c : Thread nD τ).loc cc0_scratch0) ↦[wset ⟨b.val, by omega⟩]{fullShare} f) : sProp 𝕄))
      = iprop((∃ f, wP (F := F) c 0 f) ∗ (∃ f, wP (F := F) c 1 f) ∗ (∃ f, wP (F := F) c 2 f)) :=
  bigSep_univ_eq_bigSepL [(0 : Fin 3), 1, 2] (by decide) (by decide) _
omit [FloatOps F] in
theorem w_slots : (iprop(∃ f : Buf (Elt F) ((c : Thread nD τ).loc cc0_scratch0), ((c : Thread nD τ).loc cc0_scratch0) ↦{fullShare} f) : sProp 𝕄)
    ⊢ iprop((∃ f, wP (F := F) c 0 f) ∗ (∃ f, wP (F := F) c 1 f) ∗ (∃ f, wP (F := F) c 2 f)) :=
  (buf_slots (ℓ := (c : Thread nD τ).loc cc0_scratch0) (fun b : Fin 3 => wset ⟨b.val, by omega⟩) wset_disj wset_cover fullShare).trans (Entails.of_eq (w_three c))
omit [FloatOps F] in
theorem w_whole (f₀ : (cc0_scratch0 : Ref sig .tc).ty.Contents (Elt F)) : iprop((∃ f, wP (F := F) c 0 f) ∗ (∃ f, wP (F := F) c 1 f) ∗ (∃ f, wP (F := F) c 2 f))
    ⊢ (iprop(∃ f : Buf (Elt F) ((c : Thread nD τ).loc cc0_scratch0), ((c : Thread nD τ).loc cc0_scratch0) ↦{fullShare} f) : sProp 𝕄) :=
  (Entails.of_eq (w_three c).symm).trans (buf_whole (ℓ := (c : Thread nD τ).loc cc0_scratch0) (fun b : Fin 3 => wset ⟨b.val, by omega⟩) wset_disj wset_cover fullShare f₀)

theorem prep_sig : iprop((bigSep Finset.univ fun k : Fin 16 => dutyTok ER (barCell (up c k)) 0 (-k))
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f))
    ⊢ iprop(along (sigNeed c) 15 1 (by decide) ∗ (∃ f, stgP (F := F) c 0 f) ∗ ∃ f, amxP (F := F) c 0 fullShare f) := by
  iintro ⟨Ht, Hs, Ha⟩
  ihave Hs := (stg_slots c) $$ Hs
  ihave Ha := (amx_slots c) $$ Ha
  ihave Hs := (neg_full (fun k => (iprop(∃ f, stgP (F := F) c k f) : sProp 𝕄))) $$ Hs
  ihave Ha := (neg_full (fun k => (iprop(∃ f, amxP (F := F) c k fullShare f) : sProp 𝕄))) $$ Ha
  ihave Hs := (full_head (fun k => (iprop(∃ f, stgP (F := F) c (-k) f) : sProp 𝕄))) $$ Hs
  ihave Ha := (full_head (fun k => (iprop(∃ f, amxP (F := F) c (-k) fullShare f) : sProp 𝕄))) $$ Ha
  ihave Ht := (full_head (fun k => (dutyTok ER (barCell (up c k)) 0 (-k) : sProp 𝕄))) $$ Ht
  icases Hs with ⟨Hs0, Hs⟩
  icases Ha with ⟨Ha0, Ha⟩
  icases Ht with ⟨-, Ht⟩
  isplitl [Hs Ha Ht]
  · unfold sigNeed
    iapply (along_sep (fun k => (dutyTok ER (barCell (up c k)) 0 (-k) : sProp 𝕄)) (fun k => (iprop((∃ f, stgP (F := F) c (-k) f) ∗ ∃ f, amxP (F := F) c (-k) fullShare f) : sProp 𝕄)))
    isplitl [Ht]; · iexact Ht
    iapply (along_sep (fun k => (iprop(∃ f, stgP (F := F) c (-k) f) : sProp 𝕄)) (fun k => (iprop(∃ f, amxP (F := F) c (-k) fullShare f) : sProp 𝕄)))
    isplitl [Hs] <;> iassumption
  isplitl [Hs0]
  · iexact Hs0
  · iexact Ha0

theorem prep_need : iprop(along (barPay (F := F) c) 15 1 (by decide) ∗ (bigSep Finset.univ fun k : Fin 16 => dutyTok ER (asnd c k) 0 0)
      ∗ (bigSep Finset.univ fun k : Fin 16 => dutyTok ER (arcv (up c k) k) 0 0) ∗ (bigSep Finset.univ fun k : Fin 16 => dutyTok ER (dsnd c k) 0 0)
      ∗ (bigSep Finset.univ fun k : Fin 16 => dutyTok ER (drcv (up c k) k) 0 0)
      ∗ (∃ f : Buf (Elt F) ((c : Thread nD τ).loc cc0_scratch2), ((c : Thread nD τ).loc cc0_scratch2) ↦{fullShare} f))
    ⊢ iprop(along (maxNeed (F := F) c) 15 1 (by decide) ∗ along (datNeed (F := F) c) 15 1 (by decide) ∗ ∃ f, sndP (F := F) c 0 f) := by
  iintro ⟨Hb, Ht1, Ht2, Ht3, Ht4, Hs⟩
  ihave Hs := (snd_slots c) $$ Hs
  ihave Hs := (full_head (fun k => (iprop(∃ f, sndP (F := F) c k f) : sProp 𝕄))) $$ Hs
  icases Hs with ⟨Hs0, Hs⟩
  ihave Ht1 := (full_head (fun k => (dutyTok ER (asnd c k) 0 0 : sProp 𝕄))) $$ Ht1
  ihave Ht2 := (full_head (fun k => (dutyTok ER (arcv (up c k) k) 0 0 : sProp 𝕄))) $$ Ht2
  ihave Ht3 := (full_head (fun k => (dutyTok ER (dsnd c k) 0 0 : sProp 𝕄))) $$ Ht3
  ihave Ht4 := (full_head (fun k => (dutyTok ER (drcv (up c k) k) 0 0 : sProp 𝕄))) $$ Ht4
  icases Ht1 with ⟨-, Ht1⟩
  icases Ht2 with ⟨-, Ht2⟩
  icases Ht3 with ⟨-, Ht3⟩
  icases Ht4 with ⟨-, Ht4⟩
  unfold barPay
  have h1 : 1 + 15 ≤ 16 := by decide
  ihave Hb := (along_unsep (fun k => (iprop(∃ f, stgP (F := F) (up c k) k f) : sProp 𝕄)) (fun k => (iprop(∃ f, amxP (F := F) (up c k) k fullShare f) : sProp 𝕄)) 15 1 h1) $$ Hb
  icases Hb with ⟨Hb1, Hb2⟩
  isplitl [Hb2 Ht1 Ht2]
  · unfold maxNeed
    iapply (along_sep (fun k => (iprop(∃ f, amxP (F := F) (up c k) k fullShare f) : sProp 𝕄)) (fun k => (iprop(dutyTok ER (asnd c k) 0 0 ∗ dutyTok ER (arcv (up c k) k) 0 0) : sProp 𝕄)))
    isplitl [Hb2]; · iexact Hb2
    iapply (along_sep (fun k => (dutyTok ER (asnd c k) 0 0 : sProp 𝕄)) (fun k => (dutyTok ER (arcv (up c k) k) 0 0 : sProp 𝕄)))
    isplitl [Ht1] <;> iassumption
  isplitr [Hs0]
  · unfold datNeed
    iapply (along_sep (fun k => (iprop(∃ f, sndP (F := F) c k f) : sProp 𝕄)) (fun k => (iprop((∃ f, stgP (F := F) (up c k) k f) ∗ dutyTok ER (dsnd c k) 0 0 ∗ dutyTok ER (drcv (up c k) k) 0 0) : sProp 𝕄)))
    isplitl [Hs]; · iexact Hs
    iapply (along_sep (fun k => (iprop(∃ f, stgP (F := F) (up c k) k f) : sProp 𝕄)) (fun k => (iprop(dutyTok ER (dsnd c k) 0 0 ∗ dutyTok ER (drcv (up c k) k) 0 0) : sProp 𝕄)))
    isplitl [Hb1]; · iexact Hb1
    iapply (along_sep (fun k => (dutyTok ER (dsnd c k) 0 0 : sProp 𝕄)) (fun k => (dutyTok ER (drcv (up c k) k) 0 0 : sProp 𝕄)))
    isplitl [Ht3] <;> iassumption
  iexact Hs0

theorem h_slots : argP m c ⊢ bigSep Finset.univ (hP m c) :=
  (buf_cut (ℓ := (c : Thread nD τ).loc main_arg1) hset hset_disj hset_cover fullShare _).1
theorem h_whole : bigSep Finset.univ (hP m c) ⊢ argP m c :=
  (buf_cut (ℓ := (c : Thread nD τ).loc main_arg1) hset hset_disj hset_cover fullShare _).2

theorem prep_w : iprop((∃ f : Buf (Elt F) ((c : Thread nD τ).loc cc0_scratch0), ((c : Thread nD τ).loc cc0_scratch0) ↦{fullShare} f)
      ∗ (bigSep Finset.univ fun p : Fin 16 => dutyTok ER (wCell c p) (p.val / 3) 0) ∗ argP m c)
    ⊢ iprop(((∃ f, wP (F := F) c 0 f) ∗ (∃ f, wP (F := F) c 1 f) ∗ (∃ f, wP (F := F) c 2 f)) ∗ wNeed m c 0 ∗ wNeed m c 1 ∗ wNeed m c 2 ∗ wNeed m c 3
      ∗ along (fun p => wNeed m c (nx p)) 12 1 (by decide)) := by
  iintro ⟨Hs, Ht, Ha⟩
  ihave Hs := (w_slots c) $$ Hs
  ihave Ha := (h_slots m c) $$ Ha
  ihave Ht := (along_full (fun p => (dutyTok ER (wCell c p) (p.val / 3) 0 : sProp 𝕄))) $$ Ht
  ihave Ha := (along_full (hP m c)) $$ Ha
  have hs : iprop(along (fun p => (dutyTok ER (wCell c p) (p.val / 3) 0 : sProp 𝕄)) 16 0 (by decide) ∗ along (hP m c) 16 0 (by decide)) ⊢ along (wNeed m c) 16 0 (by decide) :=
    along_sep _ _ 16 0 (by decide)
  have hc := along_cut (wNeed m c) 4 0 (by decide) 12 4 16 (by decide) (by decide) (by decide) (by decide)
  rw [along_succ (wNeed m c) 3 0, along_succ (wNeed m c) 2 1, along_succ (wNeed m c) 1 2, along_succ (wNeed m c) 0 3] at hc
  ihave Hn := hs $$ [Ht Ha]
  · isplitl [Ht] <;> iassumption
  ihave Hn := hc $$ Hn
  icases Hn with ⟨⟨H0, H1, H2, H3, -⟩, Hn⟩
  isplitl [Hs]; · iexact Hs
  isplitl [H0]; · iexact H0
  isplitl [H1]; · iexact H1
  isplitl [H2]; · iexact H2
  isplitl [H3]; · iexact H3
  iapply (along_shift (wNeed m c)); iexact Hn

/-! ## And put together again -/

theorem post_w : iprop(hP m c 0 ∗ along (hP m c) 12 1 (by decide) ∗ along (wLeft m c) 3 13 (by decide))
    ⊢ iprop(argP m c ∗ (∃ f : Buf (Elt F) ((c : Thread nD τ).loc cc0_scratch0), ((c : Thread nD τ).loc cc0_scratch0) ↦{fullShare} f)
      ∗ closeP m (kcell (c, iw 0)) ∗ closeP m (kcell (c, iw 1)) ∗ closeP m (kcell (c, iw 2))) := by
  rw [along_succ (wLeft m c), along_succ (wLeft m c), along_succ (wLeft m c)]
  unfold wLeft
  iintro ⟨H0, H1, ⟨Ha, Hwa, Hpa⟩, ⟨Hb, Hwb, Hpb⟩, ⟨Hc, Hwc, Hpc⟩, -⟩
  isplitl [H0 H1 Ha Hb Hc]
  · iapply (h_whole m c)
    iapply (full_along (hP m c))
    have s12 := Entails.of_eq (along_succ (hP m c) 12 0 (by decide)).symm
    have s2 := Entails.of_eq (along_succ (hP m c) 2 13 (by decide)).symm
    have s1 := Entails.of_eq (along_succ (hP m c) 1 14 (by decide)).symm
    have s0 := Entails.of_eq (along_succ (hP m c) 0 15 (by decide)).symm
    have hj := along_join (hP m c) 13 0 (by decide) 3 13 16 (by decide) (by decide) (by decide) (by decide)
    iapply hj
    isplitl [H0 H1]
    · iapply s12; isplitl [H0]; · iexact H0
      iexact H1
    · iapply s2
      isplitl [Ha]; · iexact Ha
      iapply s1
      isplitl [Hb]; · iexact Hb
      iapply s0
      isplitl [Hc]; · iexact Hc
      unfold along; iempintro
  isplitl [Hwa Hwb Hwc]
  · have w15 := Entails.of_eq (wP_eq c 15 0 (by decide) (wcont m c 15))
    have w13 := Entails.of_eq (wP_eq c 13 1 (by decide) (wcont m c 13))
    have w14 := Entails.of_eq (wP_eq c 14 2 (by decide) (wcont m c 14))
    iapply (w_whole c (wcont m c 0))
    isplitl [Hwc]; · iexists (wcont m c 15); iapply w15; iexact Hwc
    isplitl [Hwa]; · iexists (wcont m c 13); iapply w13; iexact Hwa
    iexists (wcont m c 14); iapply w14; iexact Hwb
  rw [show iw 0 = iw 15 from rfl, show iw 1 = iw 13 from rfl, show iw 2 = iw 14 from rfl]
  have h15 := close_w m c 15 (by decide)
  have h13 := close_w m c 13 (by decide)
  have h14 := close_w m c 14 (by decide)
  isplitl [Hpc]; · iapply h15; iexact Hpc
  isplitl [Hpa]; · iapply h13; iexact Hpa
  iapply h14; iexact Hpb

theorem post_slots : iprop(stgP c 0 (stgC m c) ∗ (∃ f, sndP (F := F) c 0 f) ∗ along (datGot m c) 15 1 (by decide) ∗ along (doneGot m c) 15 1 (by decide)
      ∗ along (fun k => atPos ER (arcv c k) 1 ∅ 0) 15 1 (by decide) ∗ along (fun k => amxP c k fullShare.right (amaxC m c)) 15 1 (by decide)
      ∗ (bigSep Finset.univ fun k => amxP c k fullShare.left (amaxC m c)) ∗ amxP c 0 (pieceS 0) (amaxC m c) ∗ amxP c 0 (remS 16) (amaxC m c)
      ∗ atPos ER (dsnd c 0) 0 ∅ 0 ∗ atPos ER (drcv c 0) 0 ∅ 0 ∗ atPos ER (asnd c 0) 0 ∅ 0 ∗ atPos ER (arcv c 0) 0 ∅ 0)
    ⊢ iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (bigSep Finset.univ fun k => closeP m (kcell (c, ids k))) ∗ (bigSep Finset.univ fun k => closeP m (kcell (c, idr k)))
      ∗ (bigSep Finset.univ fun k => closeP m (kcell (c, ias k))) ∗ (bigSep Finset.univ fun k => closeP m (kcell (c, iar k)))) := by
  unfold datGot doneGot
  have h1 : 1 + 15 ≤ 16 := by decide
  iintro ⟨Hst, Hsn, Hd, Hdn, Hpr, Har, Hal, Hp0, Hrem, Z1, Z2, Z3, Z4⟩
  ihave Hd := (along_unsep (fun k => (stgP c k (stgC m c) : sProp 𝕄)) (fun k => (atPos ER (drcv c k) 1 ∅ 0 : sProp 𝕄)) 15 1 h1) $$ Hd
  icases Hd with ⟨Hd, Hdp⟩
  ihave Hdn := (along_unsep (fun k => (sndP c k (sndC m c) : sProp 𝕄)) (fun k => (iprop(amxP c 0 (pieceS k.val) (amaxC m c) ∗ atPos ER (dsnd c k) 1 ∅ 0 ∗ atPos ER (asnd c k) 1 ∅ 0) : sProp 𝕄)) 15 1 h1) $$ Hdn
  icases Hdn with ⟨Hsd, Hdn⟩
  ihave Hdn := (along_unsep (fun k => (amxP c 0 (pieceS k.val) (amaxC m c) : sProp 𝕄)) (fun k => (iprop(atPos ER (dsnd c k) 1 ∅ 0 ∗ atPos ER (asnd c k) 1 ∅ 0) : sProp 𝕄)) 15 1 h1) $$ Hdn
  icases Hdn with ⟨Hpc, Hdn⟩
  ihave Hdn := (along_unsep (fun k => (atPos ER (dsnd c k) 1 ∅ 0 : sProp 𝕄)) (fun k => (atPos ER (asnd c k) 1 ∅ 0 : sProp 𝕄)) 15 1 h1) $$ Hdn
  icases Hdn with ⟨Hps, Hpa⟩
  isplitl [Hsn Hsd]
  · iapply (buf_whole (ℓ := (c : Thread nD τ).loc cc0_scratch2) tset tset_disj tset_cover fullShare (sndC m c))
    iapply (head_full (fun k => (iprop(∃ f, sndP (F := F) c k f) : sProp 𝕄)))
    isplitl [Hsn]; · iexact Hsn
    iapply (along_mono (Φ := fun k => (sndP c k (sndC m c) : sProp 𝕄)) (fun k => by
      iintro H; iexists (sndC m c); iexact H)) $$ Hsd
  isplitl [Hst Hd]
  · iapply (buf_whole (ℓ := (c : Thread nD τ).loc cc0_scratch3) tset tset_disj tset_cover fullShare (stgC m c))
    iapply (head_full (fun k => (iprop(∃ f, stgP (F := F) c k f) : sProp 𝕄)))
    isplitl [Hst]; · iexists (stgC m c); iexact Hst
    iapply (along_mono (Φ := fun k => (stgP c k (stgC m c) : sProp 𝕄)) (fun k => by
      iintro H; iexists (stgC m c); iexact H)) $$ Hd
  isplitl [Har Hal Hp0 Hrem Hpc]
  · iexists (amaxC m c)
    rw [amx_whole]
    ihave Hal := (full_head (fun k => (amxP c k fullShare.left (amaxC m c) : sProp 𝕄))) $$ Hal
    icases Hal with ⟨Hal0, Hal⟩
    iapply (head_full (fun k => (amxP c k fullShare (amaxC m c) : sProp 𝕄)))
    isplitl [Hal0 Hp0 Hrem Hpc]
    · iapply (amx_share c 0 fullShare (amaxC m c)).2
      isplitl [Hal0]; · iexact Hal0
      iapply (amx_share c 0 (remS 0) (amaxC m c)).2
      isplitl [Hp0]; · iexact Hp0
      iapply (shares_join c (amaxC m c) 15 1 h1)
      isplitl [Hpc]; · iexact Hpc
      iexact Hrem
    ihave H := (along_sep (fun k => (amxP c k fullShare.left (amaxC m c) : sProp 𝕄)) (fun k => (amxP c k fullShare.right (amaxC m c) : sProp 𝕄)) 15 1 h1) $$ [Hal Har]
    · isplitl [Hal] <;> iassumption
    iapply (along_mono (fun k => (amx_share c k fullShare (amaxC m c)).2)) $$ H
  isplitl [Hps Z1]
  · iapply (head_full (fun k => closeP m (kcell (c, ids k))))
    isplitl [Z1]; · iapply (close_dsnd m c 0 0 (Or.inr rfl)); iexact Z1
    iapply (along_mono (fun k => close_dsnd m c k 1 (Or.inl (Nat.le_refl 1)))) $$ Hps
  isplitl [Hdp Z2]
  · iapply (head_full (fun k => closeP m (kcell (c, idr k))))
    isplitl [Z2]; · iapply (close_drcv m c 0 0 (Or.inr rfl)); iexact Z2
    iapply (along_mono (fun k => close_drcv m c k 1 (Or.inl (Nat.le_refl 1)))) $$ Hdp
  isplitl [Hpa Z3]
  · iapply (head_full (fun k => closeP m (kcell (c, ias k))))
    isplitl [Z3]; · iapply (close_asnd m c 0 0 (Or.inr rfl)); iexact Z3
    iapply (along_mono (fun k => close_asnd m c k 1 (Or.inl (Nat.le_refl 1)))) $$ Hpa
  · iapply (head_full (fun k => closeP m (kcell (c, iar k))))
    isplitl [Z4]; · iapply (close_arcv m c 0 0 (Or.inr rfl)); iexact Z4
    iapply (along_mono (fun k => close_arcv m c k 1 (Or.inl (Nat.le_refl 1)))) $$ Hpr

end Cert.KernelIdeal.Kern

end
-- ==== Proof.Kern.Body.lean ====
/- The whole body, from what a device starts with to what it leaves. -/
module

public import proofs.«01_k».proof.Proof.Kern.Parts

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 68 → ℕ) (c : Dev nD)

/-! ## The exchange of the maxima -/

theorem wp_exchange (K' : F .f32 → P F) (Q' : PUnit → sProp 𝕄) :
    iprop(records m K ∗ Ow c (O₁ c) ∗ resP m c ∗ (∃ f, amxP (F := F) c 0 fullShare f) ∗ along (maxNeed (F := F) c) 15 1 (by decide)
      ∗ along (maxWait (F := F) c) 15 1 (by decide)
      ∗ (iprop(Ow c (O₂ c) ∗ resP m c ∗ amxP c 0 (pieceS 0) (amaxC m c) ∗ amxP c 0 (remS 16) (amaxC m c)
          ∗ (bigSep Finset.univ fun k => amxP c k fullShare.left (amaxC m c)) ∗ along (fun k => amxP c k fullShare.right (amaxC m c)) 15 1 (by decide)
          ∗ along (fun k => atPos ER (arcv c k) 1 ∅ 0) 15 1 (by decide) ∗ along (fun k => cred (tallyAt (asnd c k) () Na)) 15 1 (by decide)) -∗ W c (K' (gm m c)) Q'))
      ⊢ W c (exchangeK M4 M7 cc0_scratch8 cc0_scratch9 c K') Q' := by
  unfold exchangeK O₁
  rw [← oweFrom_one]
  have h1 : 1 + 15 ≤ 16 := by decide
  have h2 : 1 ≤ 1 := by decide
  iintro ⟨#HR, HO, Hres, ⟨%f, Ha⟩, Hn, Hw, Hk⟩
  iapply (wp_max m c)
  isplitl [Hres]; · iexact Hres
  iintro Hres
  iapply (wp_putMax m c f)
  isplitl [Ha]; · iexact Ha
  iintro Ha
  ihave Ha := (amx_share c 0 fullShare (amaxC m c)).1 $$ Ha
  icases Ha with ⟨Hl, Ha⟩
  ihave Ha := (amx_share c 0 fullShare.right (amaxC m c)).1 $$ Ha
  icases Ha with ⟨Hp0, Ha⟩
  iapply (wp_loop c (R := records m K) 1 16 (fun n => iprop(Ow c (O₂ c + oweFrom (oweMax c) n) ∗ amxP c 0 (remS n) (amaxC m c))) (maxNeed c)
    (fun k => cred (tallyAt (asnd c k) () Na)) _ _ Q' (fun k K'' hk _ => wp_maxSend m K c k hk K'' Q') 15 1 h1 h2 h1)
  isplitr; · iexact HR
  isplitl [HO Ha]
  · isplitl [HO]; · iexact HO
    iexact Ha
  isplitl [Hn]; · iexact Hn
  iintro ⟨⟨HO, Ha⟩, Hcr⟩
  rw [show 1 + 15 = 16 from rfl, oweFrom_end, add_zero]
  iapply (wp_loop c (R := records m K) 1 16 (fun _ => Ow c (O₂ c)) (maxWait c) (maxGot m c) _ _ Q' (fun k K'' hk _ => wp_maxRecv m K c k hk K'' Q') 15 1 h1 h2 h1)
  isplitr; · iexact HR
  isplitl [HO]; · iexact HO
  isplitl [Hw]; · iexact Hw
  iintro ⟨HO, Hg⟩
  unfold maxGot
  ihave Hg := (along_unsep (fun k => (amxP c k fullShare (amaxC m c) : sProp 𝕄)) (fun k => (atPos ER (arcv c k) 1 ∅ 0 : sProp 𝕄)) 15 1 h1) $$ Hg
  icases Hg with ⟨Hg, Hpos⟩
  have hsh : along (fun k => (amxP c k fullShare (amaxC m c) : sProp 𝕄)) 15 1 h1 ⊢ iprop(along (fun k => amxP c k fullShare.left (amaxC m c)) 15 1 h1 ∗ along (fun k => amxP c k fullShare.right (amaxC m c)) 15 1 h1) :=
    (along_mono (fun k => (amx_share c k fullShare (amaxC m c)).1) 15 1 h1).trans (along_unsep _ _ 15 1 h1)
  ihave Hg := hsh $$ Hg
  icases Hg with ⟨Hgl, Hgr⟩
  iapply (wp_gather m c)
  isplitl [Hl Hgl]
  · iapply (head_full (fun k => (amxP c k fullShare.left (amaxC m c) : sProp 𝕄)))
    isplitl [Hl] <;> iassumption
  iintro Hg
  iapply Hk
  isplitl [HO]; · iexact HO
  isplitl [Hres]; · iexact Hres
  isplitl [Hp0]; · iexact Hp0
  isplitl [Ha]; · iexact Ha
  isplitl [Hg]; · iexact Hg
  isplitl [Hgr]; · iexact Hgr
  isplitl [Hpos]; · iexact Hpos
  iexact Hcr

/-! ## The whole body -/

theorem x_read (f : (cc0_stg0_0 : Ref sig .tc).ty.Contents (Elt F)) :
    M0.view.readAt (Elt F) (Rect.unit (s := S256x4096) ![0, 0] S256x4096.size inb_S256x4096_S256x4096_0_0).toLoadRect f = f :=
  Memref.readAt_unit_zero (Elt F) cc0_stg0_0 (funext fun a => by fin_cases a <;> rfl) _ f

theorem W_deviceId (k : Dev nD → P F) (Q' : PUnit → sProp 𝕄) : W c (.op .deviceId k) Q' = W c (k c) Q' := wp_deviceId ..

theorem O₁_ge {c : Dev nD} {g : GSem nD τ sig} {u : Unit} (h : 0 < O₁ c g u) : g.1.2 = .tc ∧ 1 ≤ lv g u :=
  ⟨(O₁_pos h).1, Nat.le_trans (by decide) (O₁_pos h).2⟩

def bodyPre : sProp 𝕄 :=
  iprop(records m K ∗ ghost (F := F) c ∗ creds (F := F) c ∗ argP m c ∗ scr (F := F) c ∗ Ow c (O₀ c)
    ∗ (((c : Thread nD τ).loc cc0_stg0_0) ↦{fullShare} xin m c)
    ∗ (∃ f : Buf (Elt F) ((c : Thread nD τ).loc cc0_stg1_0), ((c : Thread nD τ).loc cc0_stg1_0) ↦{fullShare} f))

def bodyPost : sProp 𝕄 :=
  iprop((bigSep Finset.univ fun i : Fin 68 => semVal (kcell (c, i)) 0) ∗ argP m c ∗ scr (F := F) c ∗ Ow c 0
    ∗ (((c : Thread nD τ).loc cc0_stg0_0) ↦{fullShare} xin m c) ∗ (((c : Thread nD τ).loc cc0_stg1_0) ↦{fullShare} outC m c))

theorem sound_bodyK (Q' : PUnit → sProp 𝕄) :
    iprop(bodyPre m K c ∗ (bodyPost m c -∗ Q' ⟨⟩))
      ⊢ W c (bodyK M0 M1 M2 M3 M4 M5 (Memref.isWhole_whole _) M6 (Memref.isWhole_whole _) M7 cc0_scratch5 cc0_scratch6 cc0_scratch7 cc0_scratch8 cc0_scratch9) Q' := by
  unfold bodyK bodyPre ghost creds scr payToks
  have h1 : 1 + 15 ≤ 16 := by decide
  rw [W_deviceId]
  iintro ⟨⟨#HR, ⟨Hpos, Htb, Hta, Htr, Htd, Htv, Htw⟩, ⟨Hcb, Hca, Hcd⟩, Harg, ⟨Hs0, ⟨%g1, Hs1⟩, Hs2, Hs3, Hs4⟩, HO, Hx, Hout⟩, Hk⟩
  ihave Hpos := (prep_pos c) $$ Hpos
  icases Hpos with ⟨Hpb, ⟨Hw0, Hw1, Hw2⟩, ⟨Z1, Hpd⟩, ⟨Z2, Hpv⟩, ⟨Z3, Hpa⟩, ⟨Z4, Hpr⟩⟩
  ihave Hsig := (prep_sig c) $$ [Htb Hs3 Hs4]
  · isplitl [Htb]; · iexact Htb
    isplitl [Hs3] <;> iassumption
  icases Hsig with ⟨Hsig, Hst0, Ham0⟩
  ihave Hww := (prep_w m c) $$ [Hs0 Htw Harg]
  · isplitl [Hs0]; · iexact Hs0
    isplitl [Htw] <;> iassumption
  icases Hww with ⟨⟨⟨%f0, Hb0⟩, ⟨%f1, Hb1⟩, ⟨%f2, Hb2⟩⟩, Hn0, Hn1, Hn2, Hn3, Hn⟩
  iapply (wp_sigs m K c _ Q')
  isplitr; · iexact HR
  isplitl [HO]; · iexact HO
  isplitl [Hsig]; · iexact Hsig
  iintro HO
  iapply (wp_bar m K c _ Q')
  isplitr; · iexact HR
  isplitl [HO]; · iexact HO
  isplitl [Hcb]; · iexact Hcb
  isplitl [Hpb]; · iexact Hpb
  iintro ⟨HO, Hpb, Hbp⟩
  ihave Hnd := (prep_need c) $$ [Hbp Hta Htr Htd Htv Hs2]
  · isplitl [Hbp]; · iexact Hbp
    isplitl [Hta]; · iexact Hta
    isplitl [Htr]; · iexact Htr
    isplitl [Htd]; · iexact Htd
    isplitl [Htv] <;> iassumption
  icases Hnd with ⟨Hmn, Hdn, Hsn0⟩
  have hwn : ∀ p, wNeed m c p ⊢ iprop(dutyTok ER (wCell c p) (p.val / 3) 0 ∗ hP m c p) := fun p => Entails.refl _
  ihave Hn0 := (hwn 0) $$ Hn0
  ihave Hn1 := (hwn 1) $$ Hn1
  ihave Hn2 := (hwn 2) $$ Hn2
  icases Hn0 with ⟨Ht0, Hh0⟩
  icases Hn1 with ⟨Ht1, Hh1⟩
  icases Hn2 with ⟨Ht2, Hh2⟩
  iapply (wp_wstart m K c 0 f0)
  isplitr; · iexact HR
  isplitl [Hh0]; · iexact Hh0
  isplitl [Hb0]; · iexact Hb0
  isplitl [Ht0]; · iexact Ht0
  isplitr; · iapply (rec_reached m K (c, iw 0) _ (kcell_w c 0)); iexact HR
  iintro Hc0
  iapply (wp_wstart m K c 1 f1)
  isplitr; · iexact HR
  isplitl [Hh1]; · iexact Hh1
  isplitl [Hb1]; · iexact Hb1
  isplitl [Ht1]; · iexact Ht1
  isplitr; · iapply (rec_reached m K (c, iw 1) _ (kcell_w c 1)); iexact HR
  iintro Hc1
  iapply (wp_wstart m K c 2 f2)
  isplitr; · iexact HR
  isplitl [Hh2]; · iexact Hh2
  isplitl [Hb2]; · iexact Hb2
  isplitl [Ht2]; · iexact Ht2
  isplitr; · iapply (rec_reached m K (c, iw 2) _ (kcell_w c 2)); iexact HR
  iintro Hc2
  iapply (wp_load 𝒱₀ (c : Thread nD τ) none Set.univ (m := M0) (Finset.subset_univ _)) $$ Hx; iintro Hx
  rw [x_read]
  iapply (wp_panels m K c (O₁ c) (fun g u h => O₁_ge h) _ Q')
  isplitr; · iexact HR
  isplitl [HO Hs1 Hw0 Hw1 Hw2 Hc0 Hc1 Hc2]
  · unfold S₁ fly
    isplitl [Hs1]
    · unfold midP
      iexists g1
      isplitr; · ipureintro; exact fun i => ⟨fun h => absurd h (Nat.not_lt_zero _), fun _ h => absurd h (Nat.lt_irrefl _)⟩
      iexact Hs1
    isplitl [HO]; · iexact HO
    isplitl [Hw0 Hc0]; · isplitl [Hc0]; · iexact Hc0
                         iexact Hw0
    isplitl [Hw1 Hc1]; · isplitl [Hc1]; · iexact Hc1
                         iexact Hw1
    isplitl [Hc2]; · iexact Hc2
    iexact Hw2
  isplitl [Hn3]; · iexact Hn3
  isplitl [Hn]; · iexact Hn
  iintro ⟨Hm, HO, Hh⟩
  ihave Hres := (mid_res m c) $$ Hm
  ihave Hh := (post_w m c) $$ Hh
  icases Hh with ⟨Harg, Hs0, Hq0, Hq1, Hq2⟩
  iapply (wp_exchange m K c)
  isplitr; · iexact HR
  isplitl [HO]; · iexact HO
  isplitl [Hres]; · iexact Hres
  isplitl [Ham0]; · iexact Ham0
  isplitl [Hmn]; · iexact Hmn
  isplitl [Hca Hpr]
  · unfold maxWait
    iapply (along_sep (fun k => (cred (tallyAt (arcv c k) () Na) : sProp 𝕄)) (fun k => (atPos ER (arcv c k) 0 ∅ 0 : sProp 𝕄)))
    isplitl [Hca] <;> iassumption
  iintro ⟨HO, Hres, Hp0, Hrem, Hal, Har, Hpr, Hcs⟩
  iapply (wp_tail m K c Q')
  isplitr; · iexact HR
  isplitl [HO]; · iexact HO
  isplitl [Hres]; · iexact Hres
  isplitl [Hdn]; · iexact Hdn
  isplitl [Hst0]; · iexact Hst0
  isplitl [Hout]; · iexact Hout
  isplitl [Hcd Hpv]
  · unfold datWait
    iapply (along_sep (fun k => (cred (tallyAt (drcv c k) () Nd) : sProp 𝕄)) (fun k => (atPos ER (drcv c k) 0 ∅ 0 : sProp 𝕄)))
    isplitl [Hcd] <;> iassumption
  isplitl [Hpd Hcs Hpa]
  · unfold donePos
    iapply (along_sep (fun k => (atPos ER (dsnd c k) 0 ∅ 0 : sProp 𝕄)) (fun k => (iprop(cred (tallyAt (asnd c k) () Na) ∗ atPos ER (asnd c k) 0 ∅ 0) : sProp 𝕄)))
    isplitl [Hpd]; · iexact Hpd
    iapply (along_sep (fun k => (cred (tallyAt (asnd c k) () Na) : sProp 𝕄)) (fun k => (atPos ER (asnd c k) 0 ∅ 0 : sProp 𝕄)))
    isplitl [Hcs] <;> iassumption
  iintro ⟨HO, Hres, Hst0, Hout, Hdg, Hdd⟩
  ihave Hsl := (post_slots m c) $$ [Hst0 Hsn0 Hdg Hdd Hpr Har Hal Hp0 Hrem Z1 Z2 Z3 Z4]
  · isplitl [Hst0]; · iexact Hst0
    isplitl [Hsn0]; · iexact Hsn0
    isplitl [Hdg]; · iexact Hdg
    isplitl [Hdd]; · iexact Hdd
    isplitl [Hpr]; · iexact Hpr
    isplitl [Har]; · iexact Har
    isplitl [Hal]; · iexact Hal
    isplitl [Hp0]; · iexact Hp0
    isplitl [Hrem]; · iexact Hrem
    isplitl [Z1]; · iexact Z1
    isplitl [Z2]; · iexact Z2
    isplitl [Z3] <;> iassumption
  icases Hsl with ⟨Hs2, Hs3, Hs4, Hq3, Hq4, Hq5, Hq6⟩
  ihave Hout := (out_all m c) $$ Hout
  have hcl := close_all m K c
  rw [cells_split (fun i => closeP m (kcell (c, i)))] at hcl
  imod hcl $$ [Hpb Hq0 Hq1 Hq2 Hq3 Hq4 Hq5 Hq6] with Hz
  · isplitr; · iexact HR
    isplitl [Hpb]; · iapply (close_bar m c); iexact Hpb
    isplitl [Hq0 Hq1 Hq2]
    · isplitl [Hq0]; · iexact Hq0
      isplitl [Hq1] <;> iassumption
    isplitl [Hq3]; · iexact Hq3
    isplitl [Hq4]; · iexact Hq4
    isplitl [Hq5] <;> iassumption
  have hre : resP m c ⊢ iprop(∃ f : Buf (Elt F) ((c : Thread nD τ).loc cc0_scratch1), ((c : Thread nD τ).loc cc0_scratch1) ↦{fullShare} f) := by
    unfold resP; iintro H; iexists (resC m c); iexact H
  rw [wp_ret]; imodintro
  iapply Hk
  unfold bodyPost scr
  isplitl [Hz]; · iexact Hz
  isplitl [Harg]; · iexact Harg
  isplitl [Hs0 Hs2 Hs3 Hs4 Hres]
  · isplitl [Hs0]; · iexact Hs0
    isplitl [Hres]; · iapply hre; iexact Hres
    isplitl [Hs2]; · iexact Hs2
    isplitl [Hs3] <;> iassumption
  isplitl [HO]; · iexact HO
  isplitl [Hx] <;> iassumption

end Cert.KernelIdeal.Kern

end
-- ==== Proof.Kern.Deal.lean ====
/- What the launch deals each device: the cells' states, the tokens and the credits. -/
module

public import proofs.«01_k».proof.Proof.Kern.Body
public import proofs.«01_k».proof.Proof.Gen.KernelIdeal.Launch

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and their tokens, numbered -/

theorem ksem_injective : Function.Injective ksem := by
  intro i j h
  by_cases hi : i.val = 0
  · by_cases hj : j.val = 0
    · exact Fin.ext (hi.trans hj.symm)
    · rw [ksem_pos j hj, show ksem i = .reg barS.sem from if_pos hi] at h; exact absurd h (by simp)
  · by_cases hj : j.val = 0
    · rw [ksem_pos i hi, show ksem j = .reg barS.sem from if_pos hj] at h; exact absurd h (by simp)
    · rw [ksem_pos i hi, ksem_pos j hj] at h
      have h' : (dm (1 + i.val) (by omega)).val = (dm (1 + j.val) (by omega)).val := by injection h with h; rw [h]
      exact Fin.ext (by have h'' : 1 + i.val = 1 + j.val := h'; omega)

theorem kcell_injective : Function.Injective kcell := by
  rintro ⟨c, i⟩ ⟨c', i'⟩ h
  have h1 : c = c' := congrArg (fun g : GSem nD τ sig => g.1.1) h
  have h2 : i = i' := ksem_injective (congrArg Prod.snd h)
  rw [h1, h2]

theorem kcell_iff {a b : Dev nD × Fin 68} : kcell a = kcell b ↔ a = b := ⟨fun h => kcell_injective h, fun h => h ▸ rfl⟩

def kcells : Finset (GSem nD τ sig) := Finset.univ.map ⟨kcell, kcell_injective⟩

/-- A device's own cells' tokens: of which cell, at which round, of which duty. -/
def tokIx (j : Fin 6) (k : Fin 16) : Fin 68 × ℕ × Fin 16 := match j with
  | 0 => (0, 0, k) | 1 => (ias k, 0, 0) | 2 => (iar k, 0, 0) | 3 => (ids k, 0, 0) | 4 => (idr k, 0, 0) | 5 => (iw k, k.val / 3, 0)
theorem tokIx_inj : ∀ (j j' : Fin 6) (k k' : Fin 16), tokIx j k = tokIx j' k' → j = j' ∧ k = k' := by decide +kernel
def tokOf (x : Dev nD × Fin 6 × Fin 16) : GSem nD τ sig × ℕ × Fin 16 := (kcell (x.1, (tokIx x.2.1 x.2.2).1), (tokIx x.2.1 x.2.2).2)
theorem tokOf_injective : Function.Injective tokOf := by
  rintro ⟨c, j, k⟩ ⟨c', j', k'⟩ h
  have h1 := kcell_injective (congrArg Prod.fst h)
  have h2 : c = c' := congrArg Prod.fst h1
  have h3 : (tokIx j k).1 = (tokIx j' k').1 := congrArg Prod.snd h1
  have h4 : (tokIx j k).2 = (tokIx j' k').2 := by have h' := congrArg Prod.snd h; exact h'
  obtain ⟨h5, h6⟩ := tokIx_inj j j' k k' (Prod.ext h3 h4)
  rw [h2, h5, h6]
def ktoks : Finset (GSem nD τ sig × ℕ × Fin 16) := Finset.univ.map ⟨tokOf, tokOf_injective⟩

def u₀ : UU :=
  (initOf (Pipeline.cells cfgs cellOf_inj) (Pipeline.launchToks cfgs cellOf_inj), initOf kcells ktoks)

/-- The tokens of a device's own cells. -/
def toks (c : Dev nD) : sProp 𝕄 :=
  iprop((bigSep Finset.univ fun k : Fin 16 => dutyTok ER (barCell c) 0 k) ∗ (bigSep Finset.univ fun k : Fin 16 => dutyTok ER (asnd c k) 0 0)
    ∗ (bigSep Finset.univ fun k : Fin 16 => dutyTok ER (arcv c k) 0 0) ∗ (bigSep Finset.univ fun k : Fin 16 => dutyTok ER (dsnd c k) 0 0)
    ∗ (bigSep Finset.univ fun k : Fin 16 => dutyTok ER (drcv c k) 0 0) ∗ (bigSep Finset.univ fun p : Fin 16 => dutyTok ER (wCell c p) (p.val / 3) 0))

/-- What the launch deals a device, and what becomes of it. -/
def G (c : Dev nD) : sProp 𝕄 :=
  iprop((bigSep Finset.univ fun i : Fin 68 => roundState ER (Rd m) (kcell (c, i)) 0)
    ∗ (bigSep Finset.univ fun i : Fin 68 => iprop(atPos ER (kcell (c, i)) 0 ∅ 0 ∗ reached ER (kcell (c, i)) 0)) ∗ toks c)

def recs (K : Dev nD × Fin 68 → ℕ) : sProp 𝕄 :=
  bigSep Finset.univ fun ci => iprop(cellInv ER (Rd m) (K ci) (kcell ci) ∗ reached ER (kcell ci) 0)
instance recs_persistent (K : Dev nD × Fin 68 → ℕ) : BI.Persistent (recs m K) := by unfold recs; infer_instance

def G' (c : Dev nD) : sProp 𝕄 := iprop(∃ K, recs m K ∗ ghost (F := F) c)

theorem toks_eq (c : Dev nD) : (bigSep Finset.univ fun jk : Fin 6 × Fin 16 => (dutyTok ER (tokOf (c, jk)).1 (tokOf (c, jk)).2.1 (tokOf (c, jk)).2.2 : sProp 𝕄)) = toks c := by
  rw [bigSep_univ_prod, bigSep_univ_eq_bigSepL [(0 : Fin 6), 1, 2, 3, 4, 5] (by decide) (by decide)]
  show iprop((bigSep Finset.univ fun k : Fin 16 => dutyTok ER (kcell (c, 0)) 0 k) ∗ (bigSep Finset.univ fun k : Fin 16 => dutyTok ER (kcell (c, ias k)) 0 0)
    ∗ (bigSep Finset.univ fun k : Fin 16 => dutyTok ER (kcell (c, iar k)) 0 0) ∗ (bigSep Finset.univ fun k : Fin 16 => dutyTok ER (kcell (c, ids k)) 0 0)
    ∗ (bigSep Finset.univ fun k : Fin 16 => dutyTok ER (kcell (c, idr k)) 0 0) ∗ (bigSep Finset.univ fun p : Fin 16 => dutyTok ER (kcell (c, iw p)) (p.val / 3) 0)) = toks c
  unfold toks
  simp only [kcell_bar, kcell_w, kcell_dsnd, kcell_drcv, kcell_asnd, kcell_arcv]

theorem fund_cells : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun i : Fin 68 => Φ (kcell (c, i)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => toks_eq c
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

def osem (k : Fin 67) : SemLoc sig := ksem k.succ

theorem ownSemFacts : Pipeline.OwnSemFacts cfg0.spec osem where
  isScoped := by decide +kernel
  inj := fun a b h => Fin.succ_injective _ (ksem_injective h)
  disj := by decide +kernel

theorem sems_eq (c : Dev nD) : (bigSep Finset.univ fun i : Fin 68 => semVal (kcell (c, i)) 0 : sProp 𝕄)
    = iprop(semVal (barCell c) 0 ∗ Pipeline.ownSems0 (Ix := Unit) (Name := ℕ) (U := UU) (Lvl := ℕ) (Val := Elt F) (τ := τ) osem c) := by
  have h : (Finset.univ : Finset (Fin 68)) = insert 0 (Finset.univ.map ⟨Fin.succ, Fin.succ_injective 67⟩) := by
    rw [Fin.univ_succ, Finset.cons_eq_insert]
  rw [h, BI.bigSep_insert (by
    intro h0
    obtain ⟨x, -, hx⟩ := Finset.mem_map.mp h0
    exact absurd hx (Fin.succ_ne_zero x)), bigSep_map]
  rfl

theorem unscopedSems0_eq (c : Dev nD) : (unscopedSems0 c : sProp 𝕄) = semVal (barCell c) 0 := by
  unfold unscopedSems0; rw [bigSep_eq_bigSepL_of_eq [SemLoc.reg barS.sem] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 68 => iprop(∃ κ : ℕ, cellInv ER (Rd m) κ (kcell (c, i))))
          ∗ (bigSep Finset.univ fun i : Fin 68 => iprop(atPos ER (kcell (c, i)) 0 ∅ 0 ∗ reached ER (kcell (c, i)) 0)) ∗ toks c) := by
  unfold G
  rw [unscopedSems0_eq]
  iintro ⟨Hos, Hus, Hst, Hat, Htok⟩
  have hv := Entails.of_eq (sems_eq (F := F) c).symm
  ihave Hv := hv $$ [Hos Hus]
  · isplitl [Hus] <;> iassumption
  imod (show iprop((bigSep Finset.univ fun i : Fin 68 => semVal (kcell (c, i)) 0) ∗ bigSep Finset.univ fun i : Fin 68 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Each token to the device that pays with it -/

def barE : Dev nD × Fin 16 ≃ Dev nD × Fin 16 where
  toFun x := (up x.1 x.2, -x.2)
  invFun x := (up x.1 x.2, -x.2)
  left_inv x := Prod.ext (up_neg x.1 x.2) (negE.left_inv x.2)
  right_inv x := Prod.ext (up_neg x.1 x.2) (negE.left_inv x.2)
def upE : Dev nD × Fin 16 ≃ Dev nD × Fin 16 where
  toFun x := (up x.1 x.2, x.2)
  invFun x := (dn x.1 x.2, x.2)
  left_inv x := Prod.ext (dn_up x.1 x.2) rfl
  right_inv x := Prod.ext (up_dn x.1 x.2) rfl

omit [FloatOps F] in
theorem deal (e : Dev nD × Fin 16 ≃ Dev nD × Fin 16) (Φ : Dev nD → Fin 16 → sProp 𝕄) :
    (bigSep Finset.univ fun c => bigSep Finset.univ fun k => Φ c k) = bigSep Finset.univ fun c => bigSep Finset.univ fun k => Φ (e (c, k)).1 (e (c, k)).2 := by
  rw [← bigSep_univ_prod (fun x : Dev nD × Fin 16 => Φ x.1 x.2), bigSep_univ_equiv e, bigSep_univ_prod]

theorem toks_around : (bigSep Finset.univ fun c : Dev nD => (toks c : sProp 𝕄)) ⊢ bigSep Finset.univ fun c : Dev nD => payToks c := by
  unfold toks payToks
  simp only [bigSep_sep']
  rw [deal barE (fun c k => (dutyTok ER (barCell c) 0 k : sProp 𝕄)), deal upE (fun c k => (dutyTok ER (arcv c k) 0 0 : sProp 𝕄)),
    deal upE (fun c k => (dutyTok ER (drcv c k) 0 0 : sProp 𝕄))]
  exact Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (Entails.refl _)).trans
    ((Entails.of_eq (bigSep_sep' S (fun _ => R) Φ).symm).trans (bigSep_mono h))

theorem regroup :
    (bigSep Finset.univ fun c : Dev nD => iprop((bigSep Finset.univ fun i : Fin 68 => iprop(∃ κ : ℕ, cellInv ER (Rd m) κ (kcell (c, i))))
          ∗ (bigSep Finset.univ fun i : Fin 68 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × Fin 68 => iprop(∃ κ : ℕ, cellInv ER (Rd m) κ (kcell ci))),
    bigSep_congr (s := Finset.univ) (fun (c : Dev nD) _ => bigSep_sep' Finset.univ (fun i : Fin 68 => (atPos ER (kcell (c, i)) 0 ∅ 0 : sProp 𝕄)) (fun i => reached ER (kcell (c, i)) 0)),
    bigSep_sep', ← bigSep_univ_prod (fun ci : Dev nD × Fin 68 => (reached ER (kcell ci) 0 : sProp 𝕄))]
  iintro ⟨HI, ⟨Hat, #HR⟩, Htok⟩
  ihave HK := (BI.bigSep_exists_pi Finset.univ (fun (ci : Dev nD × Fin 68) (κ : ℕ) => (cellInv ER (Rd m) κ (kcell ci) : sProp 𝕄))) $$ HI
  icases HK with ⟨%K, #HI⟩
  ihave Htk := (toks_around (F := F)) $$ Htok
  iapply (with_persistent (R := recs m K) (Φ := ghost) fun c _ => show iprop(recs m K ∗ ghost c) ⊢ G' m c from by
    unfold G'
    iintro H; iexists K; iexact H)
  isplitr
  · unfold recs; rw [bigSep_sep']; isplitl; · iexact HI
    iexact HR
  · unfold ghost; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem sum_up (c : Dev nD) (k : Fin 16) (n : ℕ) : (∑ d : Dev nD, if c = up d k then n else 0) = n := by
  have h : ∀ d : Dev nD, (if c = up d k then n else 0) = if d = dn c k then n else 0 := fun d => by
    by_cases h : d = dn c k
    · rw [if_pos h, if_pos (by rw [h, up_dn])]
    · rw [if_neg h, if_neg (fun h' => h (by rw [h', dn_up]))]
  rw [Finset.sum_congr rfl fun d _ => h d, Finset.sum_ite_eq' Finset.univ (dn c k) fun _ => n, if_pos (Finset.mem_univ _)]

theorem due (c d : Dev nD) (i j : Fin 68) (n : ℕ) : (tallyAt (kcell (d, j)) () n : CellTallies nD τ sig Unit) (kcell (c, i)) () = if c = d ∧ i = j then n else 0 := by
  rw [tallyAt_apply]
  by_cases h : c = d ∧ i = j
  · rw [if_pos h, if_pos ⟨by rw [h.1, h.2], rfl⟩]
  · rw [if_neg h, if_neg (fun h' => h (by have := kcell_injective h'.1; exact ⟨congrArg Prod.fst this, congrArg Prod.snd this⟩))]

/-- What a device owes a cell. -/
theorem owed (c d : Dev nD) (i : Fin 68) : O₀ d (kcell (c, i)) ()
    = ∑ k ∈ Finset.univ.filter (fun k : Fin 16 => 1 ≤ k.val ∧ k.val < 1 + 15),
      ((if c = up d k ∧ i = idr k then Nd else 0) + (if c = up d k ∧ i = iar k then Na else 0) + (if c = up d k ∧ i = 0 then 1 else 0)) := by
  unfold O₀ O₁ O₂
  rw [Pi.add_apply, Finsupp.add_apply, Pi.add_apply, Finsupp.add_apply, oweSum_apply, oweSum_apply, oweSum_apply, ← Finset.sum_add_distrib, ← Finset.sum_add_distrib]
  refine Finset.sum_congr rfl fun k _ => ?_
  unfold oweDat oweMax oweBar
  rw [← kcell_drcv, ← kcell_arcv, ← kcell_bar, due, due, due]

theorem owed_all (c : Dev nD) (i : Fin 68) : (∑ d : Dev nD, O₀ d (kcell (c, i)) ())
    = ∑ k ∈ Finset.univ.filter (fun k : Fin 16 => 1 ≤ k.val ∧ k.val < 1 + 15),
      ((if i = idr k then Nd else 0) + (if i = iar k then Na else 0) + (if i = 0 then 1 else 0)) := by
  rw [Finset.sum_congr rfl fun d _ => owed c d i, Finset.sum_comm]
  refine Finset.sum_congr rfl fun k _ => ?_
  have h : ∀ (p : Prop) [Decidable p] (n : ℕ), (∑ d : Dev nD, if c = up d k ∧ p then n else 0) = if p then n else 0 := fun p _ n => by
    by_cases hp : p
    · simp only [hp, and_true, if_true]; exact sum_up c k n
    · simp only [hp, and_false, if_false, Finset.sum_const_zero]
  rw [Finset.sum_add_distrib, Finset.sum_add_distrib, h, h, h]

theorem iar_ne : ∀ k k' : Fin 16, iar k ≠ idr k' ∧ iar k ≠ 0 ∧ idr k ≠ 0 := by decide +kernel
theorem iar_iff : ∀ k k' : Fin 16, (iar k = iar k' ↔ k' = k) ∧ (idr k = idr k' ↔ k' = k) := by decide +kernel

theorem owed_bar (c : Dev nD) : (∑ d : Dev nD, O₀ d (barCell c) ()) = 15 := by
  rw [← kcell_bar, owed_all, Finset.sum_congr rfl (g := fun _ => 1) fun k _ => by
    rw [if_neg (iar_ne k k).2.2.symm, if_neg (iar_ne k k).2.1.symm, if_pos rfl]]
  decide +kernel

theorem owed_arcv (c : Dev nD) (k : Fin 16) (hk : 1 ≤ k.val) : (∑ d : Dev nD, O₀ d (arcv c k) ()) = Na := by
  rw [← kcell_arcv, owed_all, Finset.sum_congr rfl (g := fun k' => if k' = k then Na else 0) fun k' _ => by
    rw [if_neg (iar_ne k k').1, if_neg (iar_ne k k').2.1, Nat.zero_add, Nat.add_zero, if_congr (iar_iff k k').1 rfl rfl],
    Finset.sum_ite_eq' _ k fun _ => Na, if_pos (Finset.mem_filter.mpr ⟨Finset.mem_univ _, hk, k.isLt⟩)]

theorem owed_drcv (c : Dev nD) (k : Fin 16) (hk : 1 ≤ k.val) : (∑ d : Dev nD, O₀ d (drcv c k) ()) = Nd := by
  rw [← kcell_drcv, owed_all, Finset.sum_congr rfl (g := fun k' => if k' = k then Nd else 0) fun k' _ => by
    rw [if_neg (iar_ne k' k).1.symm, if_neg (iar_ne k k').2.2, Nat.add_zero, if_congr (iar_iff k k').2 rfl rfl],
    Finset.sum_ite_eq' _ k fun _ => Nd, if_pos (Finset.mem_filter.mpr ⟨Finset.mem_univ _, hk, k.isLt⟩)]

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem along_imp {Φ Ψ : Fin 16 → sProp 𝕄} (a : ℕ) (h : ∀ k : Fin 16, a ≤ k.val → Φ k ⊢ Ψ k) : ∀ (n lo : Nat) (hl : lo + n ≤ 16), a ≤ lo →
    along Φ n lo hl ⊢ along Ψ n lo hl
  | 0, _, _, _ => Entails.refl _
  | n + 1, lo, hl, ha => by
    rw [along_succ, along_succ]
    exact BI.sep_mono (h _ ha) (along_imp a h n (lo + 1) (by omega) (by omega))

theorem creds_intro (c : Dev nD) : (Pipeline.launchCred O₀ c : sProp 𝕄) ⊢ creds c := by
  have hs : (Finset.univ.map ⟨ksem, ksem_injective⟩ : Finset (SemLoc sig)) ⊆ Finset.univ := Finset.subset_univ _
  have h1 : (Pipeline.launchCred O₀ c : sProp 𝕄) ⊢ bigSep Finset.univ fun i : Fin 68 => cred (tallyOn (kcell (c, i)) (launchCredit (Pipeline.owing O₀) 0 (kcell (c, i)))) := by
    unfold Pipeline.launchCred
    refine (BI.bigSep_subset hs).trans ?_
    rw [bigSep_map]; exact Entails.refl _
  refine h1.trans ?_
  rw [cells_split]
  simp only [kcell_bar, kcell_drcv, kcell_arcv]
  unfold creds
  rw [launch_at _ _ (owed_bar c)]
  iintro ⟨Hb, -, -, Hd, -, Ha⟩
  have h1 : 1 + 15 ≤ 16 := by decide
  have h2 : 1 ≤ 1 := by decide
  isplitl [Hb]; · iexact Hb
  isplitl [Ha]
  · ihave Ha := (full_head _) $$ Ha
    icases Ha with ⟨-, Ha⟩
    iapply (along_imp 1 (fun k hk => by rw [launch_at _ _ (owed_arcv c k hk)]) 15 1 h1 h2) $$ Ha
  · ihave Hd := (full_head _) $$ Hd
    icases Hd with ⟨-, Hd⟩
    iapply (along_imp 1 (fun k hk => by rw [launch_at _ _ (owed_drcv c k hk)]) 15 1 h1 h2) $$ Hd

end Cert.KernelIdeal.Kern

end
-- ==== Proof.Kern.Printed.lean ====
/- The printed body is the body written with loops. -/
module

public import proofs.«01_k».proof.Proof.Kern.Shape
public import Idealize.ShloMosaic.Lib.Pipeline.Regions

@[expose] public section

set_option maxRecDepth 65536

noncomputable section

namespace Cert.KernelIdeal.Kern

open Idealize.ShloMosaic Idealize.SL.Sem Cert.KernelIdeal Cert.KernelIdeal.Gen

variable {F : FTy → Type} [FloatOps F]

variable (arg0 : Memref sig .tc .vmem S256x4096 .f32) (harg0 : arg0.IsWhole) (arg1 : Memref sig .tc .hbm S4096x8192 .f32) (harg1 : arg1.IsWhole) (arg2 : Memref sig .tc .vmem S4096x512 .f32) (harg2 : arg2.IsWhole) (arg3 : Memref sig .tc .vmem S3x256x8192 .f32) (harg3 : arg3.IsWhole) (arg4 : Memref sig .tc .vmem S16x256x512 .f32) (harg4 : arg4.IsWhole) (arg5 : Memref sig .tc .vmem S16x256x512 .i8) (harg5 : arg5.IsWhole) (arg6 : Memref sig .tc .vmem S16x256x512 .i8) (harg6 : arg6.IsWhole) (arg7 : Memref sig .tc .vmem S16x8x128 .f32) (harg7 : arg7.IsWhole) (arg8 : DmaSems sig S3) (arg9 : DmaSems sig S16) (arg10 : DmaSems sig S16) (arg11 : DmaSems sig S16) (arg12 : DmaSems sig S16)

/-- The printed body, operation for operation, is the body with loops. -/
theorem body_eq :
    cc0_body (F := F) arg0 harg0 arg1 harg1 arg2 harg2 arg3 harg3 arg4 harg4 arg5 harg5 arg6 harg6 arg7 harg7 arg8 arg9 arg10 arg11 arg12
      = bodyK arg0 arg1 arg2 arg3 arg4 arg5 harg5 arg6 harg6 arg7 arg8 arg9 arg10 arg11 arg12 := by
  chain_rfl

end Cert.KernelIdeal.Kern

end
-- ==== Proof.Kern.Run.lean ====
/- The run of the kernel on all sixteen devices. -/
module

public import proofs.«01_k».proof.Proof.Kern.Deal
public import proofs.«01_k».proof.Proof.Kern.Printed
public import Idealize.ShloMosaic.Lib.Quiescent
public import Idealize.ShloMosaic.Lib.Pipeline.CollectiveSegs

@[expose] public section

set_option maxRecDepth 16384

noncomputable section

namespace Cert.KernelIdeal.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## What the one grid point finds and leaves -/

theorem one_point (t : Fin cfg0.N) : t = t0_0 := fin_N0 t

/-- What a device's body begins with, the staging buffers and the debt apart. -/
def start (c : Dev nD) : sProp 𝕄 := iprop((∃ K, records m K ∗ ghost (F := F) c) ∗ creds c ∗ argP m c)
def Φa (c : Dev nD) : sProp 𝕄 := iprop(start m c ∗ scr c)
/-- And what it ends with. -/
def Φb (c : Dev nD) : sProp 𝕄 := iprop((bigSep Finset.univ fun i : Fin 68 => semVal (kcell (c, i)) 0) ∗ argP m c ∗ scr c)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outC m c
  Φ t := match t with
    | ⟨0, _⟩ => Φa m c
    | ⟨_ + 1, _⟩ => Φb m c
  q _ := fullShare
  owed t := match t with
    | ⟨0, _⟩ => O₀ c
    | ⟨_ + 1, _⟩ => 0

theorem share_full (c : Dev nD) (w : Fin cfg0.W) : (dats m 0 c).share w = fullShare := by unfold Dat.share; split <;> rfl

omit [FloatOps F] in
theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
theorem two_windows (Φ : Fin cfg0.W → sProp 𝕄) : bigSep Finset.univ Φ = iprop(Φ (0 : Fin 2) ∗ Φ (1 : Fin 2)) := bigSep_W0 Φ

/-- A staging buffer known to hold `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def found (c : Dev nD) : sProp 𝕄 :=
  iprop(Φa m c ∗ (dats m 0 c).owesAt () t0_0.castSucc
    ∗ (∃ d, held c cc0_stg0_0 ((dats m 0 c).before (0 : Fin 2) t0_0 d)) ∗ (∃ d, held c cc0_stg1_0 ((dats m 0 c).before (1 : Fin 2) t0_0 d)))
def left (c : Dev nD) : sProp 𝕄 :=
  iprop(Φb m c ∗ (dats m 0 c).owesAt () t0_0.succ ∗ held c cc0_stg0_0 (xin m c) ∗ held c cc0_stg1_0 (outC m c))

theorem before_in (c : Dev nD) (d) : (dats m 0 c).before (0 : Fin 2) t0_0 d = xin m c := by
  unfold Dat.before
  rw [if_pos (show (cfg0.win (0 : Fin 2)).fetch t0_0 = true from rfl)]
  rfl

theorem found_pre (c : Dev nD) : found m c ⊢ iprop(∃ K, bodyPre m K c) := by
  unfold found Φa start bodyPre Ow
  iintro ⟨⟨⟨⟨%K, HR, Hg⟩, Hc, Ha⟩, Hs⟩, ⟨%X, %hX, HO⟩, ⟨%d, %f, %hf, Hx⟩, ⟨%d', %f', %hf', Ho⟩⟩
  iexists K
  isplitl [HR]; · iexact HR
  isplitl [Hg]; · iexact Hg
  isplitl [Hc]; · iexact Hc
  isplitl [Ha]; · iexact Ha
  isplitl [Hs]; · iexact Hs
  isplitl [HO]; · iexists X; iexact HO
  isplitl [Hx]
  · rw [before_in] at hf; subst hf; iexact Hx
  iexists f'; iexact Ho

theorem post_left (c : Dev nD) : bodyPost m c ⊢ left m c := by
  unfold left Φb bodyPost Ow
  iintro ⟨Hz, Ha, Hs, ⟨%X, HO⟩, Hx, Ho⟩
  isplitl [Hz Ha Hs]
  · isplitl [Hz]; · iexact Hz
    isplitl [Ha] <;> iassumption
  isplitl [HO]
  · iexists X
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 100000 in
theorem sound_point (c : Dev nD) : BodyObligation (dats (F := F) m 0 c) (defs₀ (F := F)) 𝒱₀ () Set.univ := fun t => by
  rw [one_point t, two_windows, two_windows]
  simp only [whole_owns]
  show found m c ⊢ W c (cc0_body (F := F) M0 (Memref.isWhole_whole _) M1 (Memref.isWhole_whole _) M2 (Memref.isWhole_whole _) M3 (Memref.isWhole_whole _)
      M4 (Memref.isWhole_whole _) M5 (Memref.isWhole_whole _) M6 (Memref.isWhole_whole _) M7 (Memref.isWhole_whole _)
      cc0_scratch5 cc0_scratch6 cc0_scratch7 cc0_scratch8 cc0_scratch9) (fun _ => left m c)
  rw [body_eq]
  iintro H
  ihave H := (found_pre m c) $$ H
  icases H with ⟨%K, H⟩
  iapply (sound_bodyK m K c fun _ => left m c)
  isplitl [H]; · iexact H
  iintro H
  iapply (post_left m c); iexact H

/-! ## The launch's side conditions -/

theorem at_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' recs start records argP
  iintro ⟨Ha, Hlev, Hcr, -, ⟨%K, HR, Hg⟩⟩
  ihave Hc := (creds_intro (F := F) c) $$ Hcr
  imodintro
  isplitl
  · isplitl [HR Hlev Hg]
    · iexists K
      isplitl [HR Hlev]
      · isplitl [HR] <;> iassumption
      iexact Hg
    isplitl [Hc]; · iexact Hc
    iexact Ha
  · iempintro

theorem at_entry (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φa m c from rfl, scopedRest0_eq]
  unfold Φa scr
  iintro ⟨Hs, -, Hr⟩
  isplitl [Hs]; · iexact Hs
  iexact Hr

theorem at_exit (c : Dev nD) :
    (dats m 0 c).Φ (Fin.last cfg0.N) ⊢ iprop((unscopedSems0 c ∗ argP m c) ∗ Pipeline.ownSems0 osem c ∗ Pipeline.scopedRest cfg0.spec c) := by
  rw [show (dats m 0 c).Φ (Fin.last cfg0.N) = Φb m c from rfl, scopedRest0_eq, unscopedSems0_eq]
  unfold Φb scr
  rw [sems_eq]
  iintro ⟨⟨Hb, Ho⟩, Ha, Hr⟩
  isplitl [Hb Ha]
  · isplitl [Hb] <;> iassumption
  isplitl [Ho]; · iexact Ho
  iexact Hr

theorem stage_lv : ∀ (w : Fin 2) (s : Fin (spec0 w).nbuf) (c : Dev nD), lv ((c : Thread nD τ), .dma ((spec0 w).sem s)) () = 0 := by decide +kernel

theorem waits (c : Dev nD) : (levAts L lv : sProp 𝕄) ⊢ Pipeline.cellsWaits cfgs (dats m) () 0 c :=
  Pipeline.cellsWaits_intro cfgs (dats m) () 0 c fun w s t =>
    mayWait_of c _ _ fun g u hg => by
      rcases t with ⟨_ | _, ht⟩
      · have h1 := O₀_pos (c := c) (g := g) (u := u) hg
        exact ⟨h1.1, by
          have h2 := stage_lv w s c
          exact lt_of_eq_of_lt h2 h1.2⟩
      · exact absurd hg (Nat.lt_irrefl 0)

/-! ## The run -/

/-- A window's array when the run is over. -/
def finalA (c : Dev nD) (w : Fin cfg0.W) : Buf (Elt F) ((cfg0.win w).arr.view.loc (c : Thread nD τ)) := (dats m 0 c).arrAt w cfg0.N

theorem finalA_in (c : Dev nD) : finalA m c (0 : Fin 2) = m ((c : Thread nD τ).loc main_arg0) :=
  (dats (F := F) m 0 c).arrAt_in (0 : Fin 2) rfl _

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_end (c : Dev nD) (s' : Phys nD τ sig (Elt F)) :
    iprop((unscopedSems0 c ∗ argP m c) ∗ emp ∗ SI s') ⊢ (|={Set.univ}=> iprop(⌜QY m c s'.mem⌝ ∗ SI s') : sProp 𝕄) := by
  unfold argP
  iintro ⟨⟨Hu, Ha⟩, -, HSI⟩
  icombine Ha HSI gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h⟩
  iexact HSI

/-- What every run ends in: the result array at the value of the last contents, both arguments as they were, every semaphore at zero. -/
def Ends (r : PUnit × MemSt nD τ sig (Elt F)) : Prop :=
  (∀ c : Dev nD, r.2.mem ((c : Thread nD τ).loc main_v1) = finalA m c (1 : Fin 2)
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 100000 in
/-- From any memory and any float values every weakly fair execution on the sixteen devices ends, and ends so. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := sound_point m) (hne := block_pos0) (harr := arr_whole0) (hstage := stage_whole0)
    (hshare := share_full m) (hdistinct := winFacts0.arr_inj) (O₀ := O₀) (howed₀ := fun _ => rfl) (howedN := fun _ => rfl)
    (L := L) (lv := lv) (hL := L_of_ne) (hwaits := waits m) (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m) (hA := fun _ _ => rfl) (hpf := fun _ k => k.elim0)
    (X := start m) (Y := fun c => iprop(unscopedSems0 c ∗ argP m c)) (Z := fun _ => iprop(emp))
    (hX := at_start m ρ) (hin := at_entry m) (hout := at_exit m) (QY := QY m) (hY := read_end m)
    (hQ := fun _ h hs => ⟨fun c => ⟨(h c).1 (1 : Fin 2), ((h c).1 (0 : Fin 2)).trans (finalA_in m c), (h c).2.2.2⟩, sem_eq_zero hs fun c => (h c).2.2.1⟩)

end Cert.KernelIdeal.Kern

end
-- ==== Proof.Kern.Frames.lean ====
/- The three frames, each the run with the values dropped. -/
module

public import proofs.«01_k».proof.Defs
public import proofs.«01_k».proof.Proof.Gen.Kernel
public import proofs.«01_k».proof.Proof.Gen.ReferenceIdeal.Run
public import proofs.«01_k».proof.Proof.Kern.Run

@[expose] public section

set_option maxRecDepth 100000

noncomputable section

namespace Cert.KernelIdeal.Kern

open Idealize.ShloMosaic Idealize.SL.Sem

theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main (F := F) m ρ)

theorem frame_kernelIdeal : Cert.quiescent_KernelIdeal (hKernelIdeal := Cert.KernelIdeal.Gen.facts) := fun m ρ _ => frame_any m ρ

/-- The kernel as printed is the same text, so its frame is that of the text read at machine words. -/
theorem same_text : (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0))
    = Cert.quiescent_Kernel (hKernel := Cert.Kernel.Gen.facts) := by chain_rfl

theorem frame_kernel : Cert.quiescent_Kernel (hKernel := Cert.Kernel.Gen.facts) :=
  same_text.mp fun m ρ _ => frame_any (F := Bits) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

end Cert.KernelIdeal.Kern

end
-- ==== Proof.Kern.Scal.lean ====
/- The scalar arithmetic of the quantiser on the extended reals: the kernel's multiplication by the inverse scale and clip at
   zero give what the reference's division and clip at -127 give. -/
module

public import Idealize.ShloMosaic.PureOps.Ideal
public import Idealize.ShloMosaic.PureOps.Ideal.Laws
public import Idealize.ShloMosaic.Lib.IdealHost

@[expose] public section

set_option maxRecDepth 16384

noncomputable section

namespace Cert.KernelIdeal.Kern

open Idealize.ShloMosaic

/-! ## Rounding, clipping and rescaling, on the extended reals -/

/-- Round to the nearest integer, ties to even; the infinities fixed. -/
def rnd (x : EReal) : EReal := Ideal.liftRound Ideal.roundHalfEven x

/-- The kernel's clip of the rounded value, below at zero and above at 127. -/
def clipK (t G : EReal) : EReal := min ((127 : ℝ) : EReal) (max 0 (rnd (t * Ideal.div ((127 : ℝ) : EReal) G)))
/-- The kernel's value: the clipped integer kept in a byte, then rescaled. -/
def valK (t G : EReal) : EReal :=
  (((Ideal.fptosi 8 (clipK t G)).toInt : ℝ) : EReal) * Ideal.div G ((127 : ℝ) : EReal)
/-- The reference's value. -/
def valR (t G : EReal) : EReal :=
  min ((127 : ℝ) : EReal) (max ((-127 : ℝ) : EReal) (rnd (Ideal.div (max t 0) (Ideal.div G ((127 : ℝ) : EReal)))))
    * Ideal.div G ((127 : ℝ) : EReal)

theorem rnd_bot : rnd ⊥ = ⊥ := rfl
theorem rnd_top : rnd ⊤ = ⊤ := rfl
theorem rnd_coe (r : ℝ) : rnd (r : EReal) = ((Ideal.roundHalfEven r : ℝ) : EReal) := rfl

/-- A nonnegative number rounds to a nonnegative integer. -/
theorem rhe_nonneg {r : ℝ} (h : 0 ≤ r) : 0 ≤ Ideal.roundHalfEven r := by
  have hf : 0 ≤ ⌊r⌋ := Int.floor_nonneg.2 h
  unfold Ideal.roundHalfEven
  dsimp only
  split_ifs <;> omega

/-- A number that is not positive rounds to an integer that is not positive. -/
theorem rhe_nonpos {r : ℝ} (h : r ≤ 0) : Ideal.roundHalfEven r ≤ 0 := by
  have h2 : (⌊r⌋ : ℝ) ≤ r := Int.floor_le r
  have hf : ⌊r⌋ ≤ 0 := by
    have : (⌊r⌋ : ℝ) ≤ ((0 : ℤ) : ℝ) := by push_cast; linarith
    exact_mod_cast this
  rcases eq_or_lt_of_le h with h0 | h0
  · subst h0; simp [Ideal.roundHalfEven]
  · have hf' : ⌊r⌋ < 0 := Int.floor_lt.2 (by exact_mod_cast h0)
    unfold Ideal.roundHalfEven
    dsimp only
    split_ifs <;> omega

theorem rhe_zero : Ideal.roundHalfEven 0 = 0 := le_antisymm (rhe_nonpos le_rfl) (rhe_nonneg le_rfl)
theorem rnd_zero : rnd 0 = 0 := by
  rw [← EReal.coe_zero, rnd_coe, rhe_zero]; simp

/-- An integer between 0 and 127 is what its byte says. -/
theorem byte_round (n : ℤ) (h0 : 0 ≤ n) (h1 : n ≤ 127) : (Ideal.fptosi 8 (((n : ℝ)) : EReal)).toInt = n := by
  unfold Ideal.fptosi
  rw [Ideal.toIntClamped_coe]
  have h0' : (0 : ℝ) ≤ (n : ℝ) := by exact_mod_cast h0
  rw [if_pos h0', Int.floor_intCast]
  have e : max (-((2 ^ (8 - 1) : ℕ) : ℤ)) (min (((2 ^ (8 - 1) : ℕ) : ℤ) - 1) n) = n := by norm_num; omega
  rw [e]
  interval_cases n <;> decide

/-- The clipped value is an integer between 0 and 127. -/
theorem clip_int (x : EReal) : ∃ n : ℤ, 0 ≤ n ∧ n ≤ 127 ∧ min ((127 : ℝ) : EReal) (max 0 (rnd x)) = ((n : ℝ) : EReal) := by
  induction x using EReal.rec with
  | bot => exact ⟨0, le_rfl, by norm_num, by rw [rnd_bot]; simp⟩
  | top => exact ⟨127, by norm_num, le_rfl, by rw [rnd_top]; simp⟩
  | coe r =>
    refine ⟨min 127 (max 0 (Ideal.roundHalfEven r)), by omega, by omega, ?_⟩
    rw [rnd_coe, ← EReal.coe_zero]
    push_cast
    rfl

/-- The byte loses nothing: the kernel's value is its clipped integer, rescaled. -/
theorem valK_eq (t G : EReal) : valK t G = clipK t G * Ideal.div G ((127 : ℝ) : EReal) := by
  obtain ⟨n, h0, h1, h⟩ := clip_int (t * Ideal.div ((127 : ℝ) : EReal) G)
  unfold valK
  rw [show clipK t G = ((n : ℝ) : EReal) from h, byte_round n h0 h1]

/-- The quotient of two reals, the divisor not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Where the clipped integer is a real `a`, and it is nonnegative, the lower end of the clip does not show. -/
theorem clip_same (a : ℝ) (h : 0 ≤ a) :
    max (0 : EReal) (a : EReal) = max ((-127 : ℝ) : EReal) (a : EReal) := by
  rw [max_eq_right (by exact_mod_cast h), max_eq_right (by exact_mod_cast (by linarith : (-127 : ℝ) ≤ a))]

theorem clip_zero : min ((127 : ℝ) : EReal) (max ((-127 : ℝ) : EReal) 0) = 0 := by
  rw [max_eq_right (by exact_mod_cast (by norm_num : (-127 : ℝ) ≤ 0)), min_eq_right (by exact_mod_cast (by norm_num : (0 : ℝ) ≤ 127))]
theorem clip_zero' : min ((127 : ℝ) : EReal) (max 0 0) = 0 := by
  rw [max_self, min_eq_right (by exact_mod_cast (by norm_num : (0 : ℝ) ≤ 127))]

/-- The two values agree, for any entry and any bound of its positive part. -/
theorem val_eq (t G : EReal) (hG : max t 0 ≤ G) : valK t G = valR t G := by
  rw [valK_eq]
  unfold clipK valR
  have h127 : ((127 : ℝ) : EReal) ≠ 0 := by exact_mod_cast (by norm_num : (127 : ℝ) ≠ 0)
  induction G using EReal.rec with
  | bot => exact absurd ((le_max_right t 0).trans hG) (by simp)
  | top =>
    have hT : Ideal.div ⊤ ((127 : ℝ) : EReal) = ⊤ := by
      unfold Ideal.div
      rw [if_neg h127, ← EReal.coe_inv, EReal.top_mul_coe_of_pos (by norm_num)]
    have hK : Ideal.div ((127 : ℝ) : EReal) ⊤ = 0 := by
      unfold Ideal.div
      rw [if_neg (by simp), EReal.inv_top, mul_zero]
    have hR : Ideal.div (max t 0) ⊤ = 0 := by
      unfold Ideal.div
      rw [if_neg (by simp), EReal.inv_top, mul_zero]
    rw [hT, hK, hR, mul_zero, rnd_zero, clip_zero, clip_zero']
  | coe g =>
    rcases eq_or_ne g 0 with rfl | hg
    · have h0 : Ideal.div ((0 : ℝ) : EReal) ((127 : ℝ) : EReal) = 0 := by
        rw [div_coe _ _ (by norm_num)]; simp
      rw [h0, mul_zero, mul_zero]
    · have hg0 : 0 ≤ g := by exact_mod_cast ((le_max_right t 0).trans hG)
      have hgp : 0 < g := lt_of_le_of_ne hg0 (Ne.symm hg)
      have hdp : g / 127 ≠ 0 := by positivity
      rw [div_coe g 127 (by norm_num), div_coe 127 g hg]
      congr 1
      induction t using EReal.rec with
      | top => exact absurd ((le_max_left _ _).trans hG) (by simp)
      | bot =>
        rw [EReal.bot_mul_coe_of_pos (by positivity), rnd_bot, max_eq_right (bot_le : (⊥ : EReal) ≤ 0), ← EReal.coe_zero,
          div_coe _ _ hdp, zero_div, EReal.coe_zero, rnd_zero, clip_zero]
        simp only [max_eq_left, bot_le, min_eq_right_iff]
        exact_mod_cast (by norm_num : (0 : ℝ) ≤ 127)
      | coe x =>
        rcases le_total 0 x with hx | hx
        · rw [show max (x : EReal) 0 = (x : EReal) from max_eq_left (by exact_mod_cast hx), div_coe _ _ hdp, ← EReal.coe_mul, show x / (g / 127) = x * (127 / g) by field_simp, rnd_coe]
          congr 1
          exact clip_same _ (by exact_mod_cast rhe_nonneg (by positivity))
        · rw [show max (x : EReal) 0 = ((0 : ℝ) : EReal) from max_eq_right (by exact_mod_cast hx), div_coe _ _ hdp, zero_div, EReal.coe_zero, rnd_zero, clip_zero,
            ← EReal.coe_mul, rnd_coe, max_eq_left]
          · exact min_eq_right (by exact_mod_cast (by norm_num : (0 : ℝ) ≤ 127))
          · have : x * (127 / g) ≤ 0 := mul_nonpos_of_nonpos_of_nonneg hx (by positivity)
            exact_mod_cast rhe_nonpos this

/-! ## The constants -/

/-- The constant 127. -/
theorem bits_127 : Ideal.ofBits .f32 0x42FE0000#32 = ((127 : ℝ) : EReal) := by
  simp [Ideal.ofBits, Ideal.ieee, -EReal.coe_mul]; norm_num
/-- The constant -127. -/
theorem bits_neg127 : Ideal.ofBits .f32 0xC2FE0000#32 = ((-127 : ℝ) : EReal) := by
  simp [Ideal.ofBits, Ideal.ieee, -EReal.coe_mul, -EReal.coe_neg]; norm_num
/-- The constant from which a maximum starts is the least extended real. -/
theorem bits_bot : Ideal.ofBits .f32 0xFF800000#32 = ⊥ := by
  simp [Ideal.ofBits, Ideal.ieee]

end Cert.KernelIdeal.Kern

end
-- ==== Proof.Kern.Prod.lean ====
/- The accumulated tiles of the kernel, at the ideal values: entries of the whole product. -/
module

public import proofs.«01_k».proof.Proof.Kern.Proto
public import proofs.«01_k».proof.Proof.Kern.Scal
public import Idealize.ShloMosaic.Lib.Pointwise

@[expose] public section

set_option maxRecDepth 16384

noncomputable section

namespace Cert.KernelIdeal.Kern

open Idealize.ShloMosaic

open Cert.KernelIdeal Cert.KernelIdeal.Gen Idealize.SL.Sem Idealize.ShloMosaic.TcCoe

variable (m : (ℓ : Loc nD τ sig) → Buf (Elt Ideal) ℓ)

/-! ## The tiles are the product -/

/-- Device `c`'s rows of the left operand, and the right operand as device `c` holds it. -/
def argX (c : Dev nD) : (⟨2, ![256, 4096]⟩ : Shape).Idx → EReal := m ((c : Thread nD τ).loc main_arg0)
def argW (c : Dev nD) : (⟨2, ![4096, 8192]⟩ : Shape).Idx → EReal := m ((c : Thread nD τ).loc main_arg1)

/-- The left block staged is the device's rows. -/
theorem xv_at (c : Dev nD) (i : Fin 256) (k : Fin 4096) : xv m c (ix2 i k) = argX m c (ix2 i k) := by
  unfold xv xin
  pointwise
  rw [View.read_apply]
  show argX m c _ = argX m c _
  congr 1
  funext a
  exact Fin.ext (Pipeline.Window.rect_emb_val_of_index_zero win0_0 (0 : Fin 1) a rfl _)

/-- A panel's row `k` is row `256 p + k` of the right operand. -/
theorem wv_at (c : Dev nD) (p : Fin 16) (k : Fin 256) (n : Fin 8192) :
    wv m c p (ix3 0 k n) = argW m c (ix2 ⟨p.val * 256 + k.val, by omega⟩ n) := by
  unfold wv
  have e : (Shape.reshapeEquiv squeezes_S1x256x8192_S256x8192.numel_eq).symm (ix3 0 k n) = ix2 k n := by
    rw [Equiv.symm_apply_eq]
    pointwise
  rw [e, View.read_apply]
  show argW m c _ = argW m c _
  congr 1
  funext a
  apply Fin.ext
  fin_cases a
  · show p.val * 256 + 1 * k.val = p.val * 256 + k.val
    omega
  · show 0 + 1 * n.val = n.val
    omega

/-- An entry of one panel's tile is a sum over the panel's 256 rows. -/
theorem gemmTile_at (x : FVec Ideal S256x4096 .f32) (p : Fin 16) (w : Vec Ideal S1x256x8192 .f32) (q t : Fin 4) (i : Fin 256) (j : Fin 512) :
    gemmTile x p w q t (ix2 i j) = ∑ k : Fin 256, x (ix2 i ⟨p.val * 256 + k.val, by omega⟩) * w (ix3 0 k ⟨q.val * 2048 + (t.val * 512 + j.val), by omega⟩) := by
  unfold gemmTile gemm
  pointwise

/-- The whole product at row `i` of device `c`'s rows and column `n`. -/
def prod (c : Dev nD) (i : Fin 256) (n : Fin 8192) : EReal := ∑ k : Fin 4096, argX m c (ix2 i k) * argW m c (ix2 k n)

/-- Panel `p`'s part of the entry at row `i` and column `n`. -/
def part (c : Dev nD) (i : Fin 256) (n : Fin 8192) (p : Fin 16) : EReal :=
  ∑ k : Fin 256, argX m c (ix2 i ⟨p.val * 256 + k.val, by omega⟩) * argW m c (ix2 ⟨p.val * 256 + k.val, by omega⟩ n)

/-- Column `j` of tile `t`. -/
def col (t : Fin 16) (j : Fin 512) : Fin 8192 := ⟨t.val * 512 + j.val, by omega⟩

/-- For the staged operands it is the panel's part of the product's entry. -/
theorem panel_at (c : Dev nD) (p t : Fin 16) (i : Fin 256) (j : Fin 512) :
    gemmTile (xv m c) p (wv m c p) (tq t) (tt t) (ix2 i j) = part m c i (col t j) p := by
  rw [gemmTile_at]
  unfold part
  refine Finset.sum_congr rfl fun k _ => ?_
  rw [xv_at, wv_at]
  have e : (⟨(tq t).val * 2048 + ((tt t).val * 512 + j.val), by omega⟩ : Fin 8192) = col t j := Fin.ext (by
    show t.val / 4 * 2048 + (t.val % 4 * 512 + j.val) = t.val * 512 + j.val
    omega)
  rw [e]

/-- After some panels a tile's entry is the sum of their parts. -/
theorem acc_at (c : Dev nD) (t : Fin 16) (i : Fin 256) (j : Fin 512) (n : ℕ) (h : n + 1 ≤ 16) :
    acc m c (n + 1) t (ix3 0 i j) = ∑ p ∈ Finset.range (n + 1), part m c i (col t j) (pm p) := by
  induction n with
  | zero =>
    rw [Finset.sum_range_one, ← panel_at]
    show tileSet _ _ _ _ _ _ = _
    unfold tileSet
    pointwise
  | succ n ih =>
    rw [Finset.sum_range_succ, ← ih (by omega), ← panel_at]
    show tileAdd _ _ _ _ _ (acc m c (n + 1) t) _ = _
    unfold tileAdd
    pointwise

/-- A sum over the long axis is the sum of the panels' sums. -/
theorem sum_panels (f : Fin 4096 → EReal) :
    ∑ k : Fin 4096, f k = ∑ p : Fin 16, ∑ k : Fin 256, f ⟨p.val * 256 + k.val, by omega⟩ := by
  rw [← Equiv.sum_comp (finProdFinEquiv (m := 16) (n := 256)) f, Fintype.sum_prod_type]
  refine Finset.sum_congr rfl fun p _ => Finset.sum_congr rfl fun k _ => congrArg f (Fin.ext ?_)
  show k.val + 256 * p.val = p.val * 256 + k.val
  omega

/-- After all of them it is the product's entry. -/
theorem res_at (c : Dev nD) (t : Fin 16) (i : Fin 256) (j : Fin 512) : res m c t (ix3 0 i j) = prod m c i (col t j) := by
  show acc m c (15 + 1) t (ix3 0 i j) = _
  rw [acc_at m c t i j 15 le_rfl, Finset.sum_range]
  unfold prod
  rw [sum_panels]
  exact Finset.sum_congr rfl fun p _ => by rw [pm_val]; rfl

/-! ## The maxima -/

/-- The gathered maximum is at most `b` when all sixteen values are. -/
theorem gmaxOf_le (v : Vec Ideal S16x1x1 .f32) (b : EReal) : gmaxOf v ≤ b ↔ ∀ k : Fin 16, v (ix3 k 0 0) ≤ b := by
  unfold gmaxOf extractAt
  pointwise
  rw [Finset.fold_max_le]
  exact ⟨fun h k => h.2 k (Finset.mem_univ _), fun h => ⟨(le_of_eq bits_bot).trans bot_le, fun k _ => h k⟩⟩

/-- A tile's maximum is at most `b` when all its entries are. -/
theorem tileMax_le (v : Vec Ideal S1x256x512 .f32) (b : EReal) : tileMax v ≤ b ↔ ∀ (i : Fin 256) (j : Fin 512), v (ix3 0 i j) ≤ b := by
  unfold tileMax extractAt
  pointwise
  rw [Finset.fold_max_le]
  exact ⟨fun h i j => h.2 (i, j) (Finset.mem_univ _), fun h => ⟨(le_of_eq bits_bot).trans bot_le, fun k _ => h k.1 k.2⟩⟩

/-- A maximum folded along a list. -/
theorem foldl_max_le {ι : Type} (l : List ι) (f : ι → EReal) (a b : EReal) :
    l.foldl (fun s t => Scalar.maximumf (F := Ideal) (φ := .f32) s (f t)) a ≤ b ↔ a ≤ b ∧ ∀ t ∈ l, f t ≤ b := by
  induction l generalizing a with
  | nil => simp
  | cons x l ih =>
    rw [List.foldl_cons, ih]
    have e : Scalar.maximumf (F := Ideal) (φ := .f32) a (f x) = max a (f x) := rfl
    rw [e, max_le_iff]
    simp only [List.mem_cons, forall_eq_or_imp, and_assoc]

/-- Every column is a column of some tile. -/
theorem col_onto (n : Fin 8192) : ∃ (t : Fin 16) (j : Fin 512), col t j = n :=
  ⟨⟨n.val / 512, by omega⟩, ⟨n.val % 512, by omega⟩, Fin.ext (show n.val / 512 * 512 + n.val % 512 = n.val by omega)⟩

/-- The constant zero. -/
theorem bits_zero : (Scalar.ofBits (F := Ideal) .f32 0x00000000#32 : EReal) = 0 := Ideal.ofBits_zero_f32

/-- The device's maximum is at most `b` when zero and all entries of its rows are. -/
theorem locMax_le (c : Dev nD) (b : EReal) : locMax m c ≤ b ↔ 0 ≤ b ∧ ∀ (i : Fin 256) (n : Fin 8192), prod m c i n ≤ b := by
  unfold locMax
  refine (foldl_max_le _ _ _ _).trans (and_congr (by rw [bits_zero]) ⟨fun h i n => ?_, fun h t _ => ?_⟩)
  · obtain ⟨t, j, rfl⟩ := col_onto n
    rw [← res_at]
    exact (tileMax_le _ _).1 (h t (List.mem_finRange t)) i j
  · refine (tileMax_le _ _).2 fun i j => ?_
    rw [res_at]
    exact h i _

/-- The clip below at zero. -/
theorem maximumf_zero (x : EReal) :
    Scalar.maximumf (F := Ideal) (φ := .f32) x (Scalar.ofBits (F := Ideal) .f32 0x00000000#32) = max x 0 := by
  rw [bits_zero]
  rfl

/-- The slot of a device holds its maximum, clipped below at zero. -/
theorem amaxC_at (c : Dev nD) (k : Fin 16) : amaxC m c (ix3 k 0 0) = max (locMax m (dn c k)) 0 := maximumf_zero _

/-- The sixteen values are read from the head of each slot. -/
theorem heads_at (A : (cc0_scratch4 : Ref sig .tc).ty.Contents (Elt Ideal)) (k : Fin 16) :
    M7.view.readAt (Elt Ideal) (Rect.unit (s := S16x8x128) ![0, 0, 0] S16x1x1.size inb_S16x8x128_S16x1x1_0_0_0).toLoadRect A (ix3 k 0 0)
      = A (ix3 k 0 0) := by
  rw [View.readAt_apply, View.read_apply]
  show A _ = A _
  congr 1
  funext a
  apply Fin.ext
  fin_cases a
  · show 0 + 1 * k.val = k.val
    omega
  · rfl
  · rfl

/-- The device `c - d` behind `c` is `d`. -/
theorem dn_behind : ∀ c d : Dev nD, dn c ((show Fin 16 from c) - (show Fin 16 from d)) = d := by decide +kernel

/-- The global maximum is at most `b` when zero and all entries of all devices are. -/
theorem gm_le (c : Dev nD) (b : EReal) : gm m c ≤ b ↔ 0 ≤ b ∧ ∀ (d : Dev nD) (i : Fin 256) (n : Fin 8192), prod m d i n ≤ b := by
  unfold gm
  rw [gmaxOf_le]
  constructor
  · intro h
    have h' : ∀ k : Fin 16, locMax m (dn c k) ≤ b ∧ 0 ≤ b := fun k => by
      have := h k
      rw [heads_at, amaxC_at] at this
      exact max_le_iff.1 this
    refine ⟨(h' 0).2, fun d i n => ?_⟩
    have hd := (h' ((show Fin 16 from c) - (show Fin 16 from d))).1
    rw [dn_behind] at hd
    exact ((locMax_le m d b).1 hd).2 i n
  · intro h k
    rw [heads_at, amaxC_at]
    exact max_le ((locMax_le m _ b).2 ⟨h.1, h.2 _⟩) h.1

/-- All devices compute the same global maximum. -/
theorem gm_same (c d : Dev nD) : gm m c = gm m d :=
  le_antisymm ((gm_le m c _).2 ((gm_le m d _).1 le_rfl)) ((gm_le m d _).2 ((gm_le m c _).1 le_rfl))

/-! ## The result -/

/-- A quantised entry. -/
theorem quant_at (s : EReal) (r : Vec Ideal S1x256x512 .f32) (i : Fin 256) (j : Fin 512) :
    quant (F := Ideal) s r (ix3 0 i j) = Ideal.fptosi 8 (min ((127 : ℝ) : EReal) (max 0 (rnd (r (ix3 0 i j) * s)))) := by
  unfold quant
  pointwise
  rw [show (Ideal.ofBits FTy.f32 1123942400#32) = ((127 : ℝ) : EReal) from bits_127]
  rfl

/-- The inverse scale. -/
theorem invScaleOf_eq (g : EReal) : invScaleOf (F := Ideal) g = Ideal.div ((127 : ℝ) : EReal) g := by
  rw [← bits_127]; rfl
/-- The scale. -/
theorem scaleOf_eq (g : EReal) : scaleOf (F := Ideal) g = Ideal.div g ((127 : ℝ) : EReal) := by
  rw [← bits_127]; rfl

/-- A rescaled entry. -/
theorem dequant_at (s : EReal) (v : Vec Ideal S1x256x512 .i8) (i : Fin 256) (j : Fin 512) :
    dequant (F := Ideal) s v (ix2 i j) = (((v (ix3 0 i j) : BitVec 8).toInt : ℝ) : EReal) * s := by
  unfold dequant
  pointwise
  rfl

/-- An entry of a quantised tile, in terms of the product. -/
theorem Q_at (s : Dev nD) (t : Fin 16) (i : Fin 256) (j : Fin 512) :
    Q m s t (ix3 0 i j) = Ideal.fptosi 8 (clipK (prod m s i (col t j)) (gm m s)) := by
  unfold Q clipK
  rw [quant_at, res_at, invScaleOf_eq]

/-- An entry of a device's result, in terms of the product. -/
theorem outC_at (c : Dev nD) (r : Fin 4096) (n : Fin 512) :
    outC m c (ix2 r n) = valK (prod m (pm (r.val / 256)) ⟨r.val % 256, Nat.mod_lt _ (by decide)⟩ (col c n)) (gm m c) := by
  have e := dequant_at (scaleOf (gm m c)) (Q m (pm (r.val / 256)) c) ⟨r.val % 256, Nat.mod_lt _ (by decide)⟩ n
  rw [Q_at, scaleOf_eq, gm_same m (pm (r.val / 256)) c] at e
  unfold valK
  rw [← e]
  unfold outC
  rw [scaleOf_eq]
  congr 1
  funext a
  fin_cases a <;> rfl

end Cert.KernelIdeal.Kern

end
-- ==== Proof.Kern.Refval.lean ====
/- The reference's result at the ideal values, entry by entry. -/
module

public import proofs.«01_k».proof.Proof.Gen.ReferenceIdeal
public import proofs.«01_k».proof.Proof.Kern.Scal
public import Idealize.ShloMosaic.Lib.Pointwise

@[expose] public section

set_option maxRecDepth 16384

noncomputable section

namespace Cert.KernelIdeal.Kern

open Idealize.ShloMosaic

open Cert.ReferenceIdeal Cert.ReferenceIdeal.Gen

/-! ## The reference's result, entry by entry -/

variable (x : FVec Ideal ReferenceIdeal.S4096x4096 .f32) (w : FVec Ideal ReferenceIdeal.S4096x8192 .f32)

/-- The product after relu. -/
def refRelu : FVec Ideal ReferenceIdeal.S4096x8192 .f32 :=
  maximumf (Host.dotGeneral ReferenceIdeal.dot_S4096x4096_S4096x8192_S4096x8192_1_0_0_1_n_n none x w)
    (broadcastInDim ReferenceIdeal.S4096x8192 ![] ReferenceIdeal.Gen.bcast_S_S4096x8192 (constant ReferenceIdeal.S_ .f32 0x00000000#32))

/-- The largest magnitude, as an array of one number. -/
def refMax : FVec Ideal ReferenceIdeal.S_ .f32 :=
  Host.reduce FloatOps.maximumf (Host.absf (refRelu x w)) (constant ReferenceIdeal.S_ .f32 0xFF800000#32)
    ReferenceIdeal.Gen.reducesTo_S4096x8192_S_d0_1 ReferenceIdeal.Gen.h_S_

/-- The scale. -/
def refScale : FVec Ideal ReferenceIdeal.S_ .f32 := Host.divf (refMax x w) (constant ReferenceIdeal.S_ .f32 0x42FE0000#32)

/-- The whole result. -/
def refOut : FVec Ideal ReferenceIdeal.S4096x8192 .f32 :=
  mulf (minimumf (broadcastInDim ReferenceIdeal.S4096x8192 ![] ReferenceIdeal.Gen.bcast_S_S4096x8192 (id (constant ReferenceIdeal.S_ .f32 0x42FE0000#32)))
    (maximumf (broadcastInDim ReferenceIdeal.S4096x8192 ![] ReferenceIdeal.Gen.bcast_S_S4096x8192 (id (constant ReferenceIdeal.S_ .f32 0xC2FE0000#32)))
      (Host.roundeven (Host.divf (refRelu x w) (broadcastInDim ReferenceIdeal.S4096x8192 ![] ReferenceIdeal.Gen.bcast_S_S4096x8192 (refScale x w))))))
    (broadcastInDim ReferenceIdeal.S4096x8192 ![] ReferenceIdeal.Gen.bcast_S_S4096x8192 (refScale x w))

/-- An entry of the product. -/
def refProd (r : Fin 4096) (n : Fin 8192) : EReal := ∑ k : Fin 4096, x (ix2 r k) * w (ix2 k n)

/-- An entry after relu. -/
theorem refRelu_at (r : Fin 4096) (n : Fin 8192) : refRelu x w (ix2 r n) = max (refProd x w r n) 0 := by
  unfold refRelu refProd
  pointwise

/-- A positive part is its own magnitude. -/
theorem abs_relu (t : EReal) : max (max t 0) (-(max t 0)) = max t 0 :=
  max_eq_left ((EReal.neg_le_zero.2 (le_max_right t 0)).trans (le_max_right t 0))

/-- A maximum over all pairs. -/
theorem fold_pairs_le {A B : Type} [Fintype (A × B)] (f : A × B → EReal) (a b : EReal) :
    Finset.fold max a f Finset.univ ≤ b ↔ a ≤ b ∧ ∀ r n, f (r, n) ≤ b := by
  rw [Finset.fold_max_le]
  exact and_congr_right fun _ => ⟨fun h r n => h _ (Finset.mem_univ _), fun h k _ => h k.1 k.2⟩

/-- The largest magnitude is at most `b` when zero and all entries of the product are. -/
theorem refMax_le (j : ReferenceIdeal.S_.Idx) (b : EReal) :
    refMax x w j ≤ b ↔ 0 ≤ b ∧ ∀ (r : Fin 4096) (n : Fin 8192), refProd x w r n ≤ b := by
  unfold refMax
  pointwise
  rw [fold_pairs_le]
  have e : ∀ (r : Fin 4096) (n : Fin 8192), FloatOps.absf (F := Ideal) (φ := .f32) (refRelu x w (ix2 r n)) = max (refProd x w r n) 0 := by
    intro r n
    rw [refRelu_at]
    exact abs_relu _
  constructor
  · intro h
    have h' : ∀ (r : Fin 4096) (n : Fin 8192), refProd x w r n ≤ b ∧ 0 ≤ b := fun r n => by
      exact max_le_iff.1 ((le_of_eq (e r n).symm).trans (h.2 r n))
    exact ⟨(h' ⟨0, by omega⟩ ⟨0, by omega⟩).2, fun r n => (h' r n).1⟩
  · intro h
    refine ⟨(le_of_eq bits_bot).trans bot_le, fun r n => ?_⟩
    rw [e]
    exact max_le (h.2 _ _) h.1

/-- An entry of the result, in terms of the product and the largest magnitude. -/
theorem refOut_at (r : Fin 4096) (n : Fin 8192) (G : EReal) (hG : ∀ j, refMax x w j = G) :
    refOut x w (ix2 r n) = valR (refProd x w r n) G := by
  unfold refOut valR refScale
  pointwise [refRelu_at, hG]
  rw [show (Ideal.ofBits FTy.f32 1123942400#32) = ((127 : ℝ) : EReal) from bits_127,
    show id (constant (F := Ideal) ReferenceIdeal.S_ FTy.f32 1123942400#32) ix0 = ((127 : ℝ) : EReal) from bits_127,
    show id (constant (F := Ideal) ReferenceIdeal.S_ FTy.f32 3271426048#32) ix0 = ((-127 : ℝ) : EReal) from bits_neg127]
  rfl

end Cert.KernelIdeal.Kern

end
-- ==== Proof.Kern.Value.lean ====
/- The kernel's result is the reference's, at the ideal values. -/
module

public import proofs.«01_k».proof.Defs
public import proofs.«01_k».proof.Proof.Gen.ReferenceIdeal.Run
public import proofs.«01_k».proof.Proof.Kern.Run
public import proofs.«01_k».proof.Proof.Kern.Prod
public import proofs.«01_k».proof.Proof.Kern.Refval
public import Idealize.ShloMosaic.Lib.Layout

@[expose] public section

set_option maxRecDepth 16384

noncomputable section

namespace Cert.KernelIdeal.Kern

open Idealize.ShloMosaic

open Cert.KernelIdeal Cert.KernelIdeal.Gen Idealize.SL.Sem Idealize.ShloMosaic.TcCoe

/-! ## The array written back -/

section Final
variable {F : FTy → Type} [FloatOps F] (m : (ℓ : Loc nD τ sig) → Buf (Elt F) ℓ)

/-- The block written back is the whole array. -/
theorem out_emb (y : (⟨2, ![4096, 512]⟩ : Shape).Idx) : (win0_1.blk (0 : Fin 1)).view.emb y = y :=
  funext fun a => Fin.ext (Pipeline.Window.rect_emb_val_of_index_zero win0_1 (0 : Fin 1) a rfl y)

/-- The result array ends holding the whole staged result. -/
theorem finalA_out (c : Dev nD) (y : (⟨2, ![4096, 512]⟩ : Shape).Idx) : finalA m c (1 : Fin 2) y = outC m c y := by
  have h := (dats m 0 c).arrAt_emb_eq_flushed (1 : Fin 2)
    (fun t t' _ _ hne => absurd (Subsingleton.elim (α := Fin 1) t t') hne) (0 : Fin 1) rfl y
  rw [show ((cfg0.win (1 : Fin 2)).blk (0 : Fin 1)).view.emb y = y from out_emb y] at h
  exact h

end Final

/-! ## The two results agree -/

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's arguments. -/
def refX : FVec Ideal Cert.ReferenceIdeal.S4096x4096 .f32 := m' (((0 : Dev Cert.ReferenceIdeal.nD).tc : Thread Cert.ReferenceIdeal.nD Cert.ReferenceIdeal.τ).loc Cert.ReferenceIdeal.main_arg0)
def refW : FVec Ideal Cert.ReferenceIdeal.S4096x8192 .f32 := m' (((0 : Dev Cert.ReferenceIdeal.nD).tc : Thread Cert.ReferenceIdeal.nD Cert.ReferenceIdeal.τ).loc Cert.ReferenceIdeal.main_arg1)

/-- The devices' arguments are the reference's: its rows cut in sixteen, and a copy. -/
def Agree : Prop := ∀ c : Dev nD,
  m ((c.tc : Thread nD τ).loc main_arg0) = Layout.block ⟨2, ![256, 4096]⟩ ⟨2, ![4096, 4096]⟩ 0 16 c (refX m')
    ∧ m ((c.tc : Thread nD τ).loc main_arg1) = refW m'

variable {m m'}

/-- A device's entry of the product is the reference's at its row. -/
theorem prod_eq (hA : Agree m m') (c : Dev nD) (i : Fin 256) (n : Fin 8192) :
    prod m c i n = refProd (refX m') (refW m') ⟨c.val * 256 + i.val, by have : c.val < 16 := c.isLt; omega⟩ n := by
  unfold prod refProd
  refine Finset.sum_congr rfl fun k _ => ?_
  have e1 : argX m c (ix2 i k) = refX m' (ix2 ⟨c.val * 256 + i.val, by have : c.val < 16 := c.isLt; omega⟩ k) := by
    have := congrFun (hA c).1 (ix2 i k)
    refine this.trans ?_
    rw [Layout.block_apply]
    congr 1
    funext a
    apply Fin.ext
    fin_cases a <;> rfl
  have e2 : argW m c (ix2 k n) = refW m' (ix2 k n) := congrFun (hA c).2 (ix2 k n)
  rw [e1, e2]

/-- The two programs have the same maximum. -/
theorem max_agree (hA : Agree m m') (c : Dev nD) (j : Cert.ReferenceIdeal.S_.Idx) : refMax (refX m') (refW m') j = gm m c := by
  have key : ∀ b : EReal, refMax (refX m') (refW m') j ≤ b ↔ gm m c ≤ b := by
    intro b
    rw [refMax_le, gm_le]
    refine and_congr_right fun _ => ⟨fun h d i n => ?_, fun h r n => ?_⟩
    · rw [prod_eq hA]
      exact h _ n
    · have := h (⟨r.val / 256, by have := r.isLt; show _ < 16; omega⟩ : Dev nD) ⟨r.val % 256, Nat.mod_lt _ (by decide)⟩ n
      rw [prod_eq hA] at this
      have er : (⟨r.val / 256 * 256 + r.val % 256, by have := r.isLt; omega⟩ : Fin 4096) = r := Fin.ext (by show r.val / 256 * 256 + r.val % 256 = r.val; omega)
      rw [← er]
      exact this
  exact le_antisymm ((key _).2 le_rfl) ((key _).1 le_rfl)

/-- The two results agree entry by entry. -/
theorem out_agree (hA : Agree m m') (c : Dev nD) (r : Fin 4096) (n : Fin 512) :
    outC m c (ix2 r n) = refOut (refX m') (refW m') (ix2 r (col c n)) := by
  rw [outC_at, refOut_at _ _ _ _ (gm m c) (max_agree hA c), prod_eq hA]
  have er : (⟨(pm (r.val / 256)).val * 256 + r.val % 256, by have := (pm (r.val / 256)).isLt; omega⟩ : Fin 4096) = r := Fin.ext (by
    show r.val / 256 % 16 * 256 + r.val % 256 = r.val
    have := r.isLt
    omega)
  have er' : refProd (refX m') (refW m') (⟨(pm (r.val / 256)).val * 256 + r.val % 256, by have := (pm (r.val / 256)).isLt; omega⟩ : Fin 4096) (col c n)
      = refProd (refX m') (refW m') r (col c n) := by rw [er]
  refine (congrArg (fun t => valK t (gm m c)) er').trans (val_eq _ _ (max_le ?_ ?_))
  · have h := ((refMax_le (refX m') (refW m') ix0 _).1 le_rfl).2 r (col c n)
    rwa [max_agree hA c] at h
  · exact ((gm_le m c _).1 le_rfl).1

/-- Every device's result is its columns of the reference's. -/
theorem result_agree (hA : Agree m m') (c : Dev nD) :
    finalA m c (1 : Fin 2) = Layout.block ⟨2, ![4096, 512]⟩ ⟨2, ![4096, 8192]⟩ 1 16 c (refOut (refX m') (refW m')) := by
  funext y
  rw [finalA_out]
  obtain ⟨r, n, rfl⟩ : ∃ (r : Fin 4096) (n : Fin 512), y = ix2 r n := ⟨y 0, y 1, eq_ix2 y⟩
  rw [out_agree hA, Layout.block_apply]
  congr 1
  funext a
  apply Fin.ext
  fin_cases a <;> rfl

/-- Kernel and reference compute the same function over the extended reals. -/
theorem algebraic_value : Cert.algebraic_KernelIdeal_ReferenceIdeal (hKernelIdeal := Cert.KernelIdeal.Gen.facts)
    (hReferenceIdeal := Cert.ReferenceIdeal.Gen.facts) := by
  intro m g m' g' _ hA
  have hA' : Agree m m' := hA
  refine ⟨refOut (refX m') (refW m'), ?_, ?_⟩
  · refine (θ_run _ _ _).mono (fun r h c => ?_) (run_main (F := Ideal) m g)
    exact ⟨(h.1 c).1.trans (result_agree hA' c), (h.1 c).2⟩
  · refine (θ_run _ _ _).mono (fun r h => ?_) (Cert.ReferenceIdeal.Value.run (F := Ideal) m' g')
    exact h 0

end Cert.KernelIdeal.Kern

end
-- ==== Proof.lean ====
/- The certificate: the frames of the kernel as printed, of its ideal reading and of the reference, and the equality of
   what the last two compute. -/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Kern.Frames
public import proofs.«01_k».proof.Proof.Kern.Value

@[expose] public section

noncomputable section

namespace Cert.Proof

open Cert.KernelIdeal.Kern

/-- All five claims. -/
theorem claim : Cert.Claim := ⟨Cert.Kernel.Gen.facts, Cert.KernelIdeal.Gen.facts, Cert.ReferenceIdeal.Gen.facts,
  frame_kernel, frame_kernelIdeal, frame_reference, trivial, algebraic_value⟩

end Cert.Proof

end
